-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_crowd_fits [hPre_crowd_fits : Cert.Pre_crowd_fits.Facts] (m : (ℓ : Loc Cert.KernelIdeal.nD Cert.KernelIdeal.τ Cert.KernelIdeal.sig) → Buf (Elt Ideal) ℓ) : Prop :=
  ∀ c : Dev Cert.KernelIdeal.nD,
    (Cert.Pre_crowd_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_crowd_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_crowd_fits [hPre_crowd_fits : Cert.Pre_crowd_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_crowd_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_crowd_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_crowd_fits [hKernelIdeal : Cert.KernelIdeal.Facts] [hPre_crowd_fits : Cert.Pre_crowd_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_crowd_fits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_crowd_fits [hReferenceIdeal : Cert.ReferenceIdeal.Facts] [hPre_crowd_fits : Cert.Pre_crowd_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_crowd_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_r2" .f32 0x44E38E39#32 ((16384 / 9 : ℝ) : EReal)

def algebraic_KernelIdeal_ReferenceIdeal_pre_crowd_fits [hKernelIdeal : Cert.KernelIdeal.Facts] [hReferenceIdeal : Cert.ReferenceIdeal.Facts] [hPre_crowd_fits : Cert.Pre_crowd_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_crowd_fits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_crowd_fits : Cert.Pre_crowd_fits.Facts),
    quiescent_Kernel (hKernel := hKernel)
    ∧ quiescent_KernelIdeal (hKernelIdeal := hKernelIdeal)
    ∧ quiescent_KernelIdeal_pre_crowd_fits (hKernelIdeal := hKernelIdeal) (hPre_crowd_fits := hPre_crowd_fits)
    ∧ quiescent_ReferenceIdeal (hReferenceIdeal := hReferenceIdeal)
    ∧ quiescent_ReferenceIdeal_pre_crowd_fits (hReferenceIdeal := hReferenceIdeal) (hPre_crowd_fits := hPre_crowd_fits)
    ∧ preserves_Kernel_KernelIdeal
    ∧ algebraic_KernelIdeal_ReferenceIdeal_pre_crowd_fits (hKernelIdeal := hKernelIdeal) (hReferenceIdeal := hReferenceIdeal) (hPre_crowd_fits := hPre_crowd_fits)
-- ==== Pre_crowd_fits.lean ====
abbrev S2x4096x3 : Shape := ⟨3, ![2, 4096, 3]⟩
abbrev S2x4096x64 : Shape := ⟨3, ![2, 4096, 64]⟩
abbrev S2x4096x1 : Shape := ⟨3, ![2, 4096, 1]⟩
abbrev S2x4096 : Shape := ⟨2, ![2, 4096]⟩
abbrev S32 : Shape := ⟨1, ![32]⟩
abbrev S_ : Shape := ⟨0, ![]⟩
abbrev S2x1x4096 : Shape := ⟨3, ![2, 1, 4096]⟩
abbrev S1x32x1 : Shape := ⟨3, ![1, 32, 1]⟩
abbrev S2x32x4096 : Shape := ⟨3, ![2, 32, 4096]⟩
abbrev S2x32 : Shape := ⟨2, ![2, 32]⟩

class Facts : Prop where
  slices_S2x4096x3_S2x4096x1_0_0_1 : S2x4096x3.Slices ![0, 0, 1] S2x4096x1
  shapeCasts_S2x4096x1_S2x4096 : S2x4096x1.ShapeCasts S2x4096
  slices_S2x4096x3_S2x4096x1_0_0_2 : S2x4096x3.Slices ![0, 0, 2] S2x4096x1
  bcast_S_S32 : S_.BroadcastsInDim S32 (![] : Fin 0 → Fin S32.rank)
  bcast_S2x4096_S2x1x4096_0_2 : S2x4096.BroadcastsInDim S2x1x4096 (![0, 2] : Fin 2 → Fin S2x1x4096.rank)
  bcast_S32_S1x32x1_1 : S32.BroadcastsInDim S1x32x1 (![1] : Fin 1 → Fin S1x32x1.rank)
  bcast_S2x1x4096_S2x32x4096_0_1_2 : S2x1x4096.BroadcastsInDim S2x32x4096 (![0, 1, 2] : Fin 3 → Fin S2x32x4096.rank)
  bcast_S1x32x1_S2x32x4096_0_1_2 : S1x32x1.BroadcastsInDim S2x32x4096 (![0, 1, 2] : Fin 3 → Fin S2x32x4096.rank)
  natLt_1_32 : 1 < 32
  reducesTo_S2x32x4096_S2x32_d2 : S2x32x4096.ReducesTo [2] S2x32
  h_S_ : 0 < S_.numel
  bcast_S_S2x32 : S_.BroadcastsInDim S2x32 (![] : Fin 0 → Fin S2x32.rank)
  bcast_S_S2x4096 : S_.BroadcastsInDim S2x4096 (![] : Fin 0 → Fin S2x4096.rank)

variable [Facts]

def fn_part2 {F : FTy → Type} [FloatOps F] (main_v2 : FVec F S2x4096 .f32) (main_v4 : FVec F S2x4096 .f32) (main_v31 : FVec F S32 .f32) (main_v33 : FVec F S1x32x1 .f32) (main_v34 : FVec F S2x32x4096 .f32) : IVec S2x32 1 × IVec S2x4096 1 :=
  let main_v35 : FVec F S2x32x4096 .f32 := broadcastInDim S2x32x4096 ![0, 1, 2] bcast_S1x32x1_S2x32x4096_0_1_2 main_v33
  let main_v36 : IVec S2x32x4096 1 := cmpf .oge main_v34 main_v35
  let main_v37 : FVec F S2x1x4096 .f32 := broadcastInDim S2x1x4096 ![0, 2] bcast_S2x4096_S2x1x4096_0_2 main_v2
  let main_v38 : FVec F S1x32x1 .f32 := broadcastInDim S1x32x1 ![1] bcast_S32_S1x32x1_1 main_v31
  let main_v39 : FVec F S2x32x4096 .f32 := broadcastInDim S2x32x4096 ![0, 1, 2] bcast_S2x1x4096_S2x32x4096_0_1_2 main_v37
  let main_v40 : FVec F S2x32x4096 .f32 := broadcastInDim S2x32x4096 ![0, 1, 2] bcast_S1x32x1_S2x32x4096_0_1_2 main_v38
  let main_v41 : IVec S2x32x4096 1 := cmpf .ole main_v39 main_v40
  let main_v42 : IVec S2x32x4096 1 := andi main_v36 main_v41
  let main_v43 : IVec S2x32x4096 32 := (extui 32 · natLt_1_32) main_v42
  let main_c : IVec S_ 32 := constantI S_ 32 0#32
  let main_v44 : IVec S2x32 32 := (fun x v => Host.reduce IntOp.addi x v reducesTo_S2x32x4096_S2x32_d2 h_S_) main_v43 main_c
  let main_c_12 : IVec S_ 32 := constantI S_ 32 337#32
  let main_v45 : IVec S2x32 32 := broadcastInDim S2x32 ![] bcast_S_S2x32 main_c_12
  let main_v46 : IVec S2x32 1 := cmpi .sle main_v44 main_v45
  let main_cst_13 : FVec F S_ .f32 := constant S_ .f32 0x00000000#32
  let main_v47 : FVec F S2x4096 .f32 := broadcastInDim S2x4096 ![] bcast_S_S2x4096 main_cst_13
  let main_v48 : IVec S2x4096 1 := cmpf .ogt main_v4 main_v47
  let main_cst_14 : FVec F S_ .f32 := constant S_ .f32 0x7F800000#32
  let main_v49 : FVec F S2x4096 .f32 := broadcastInDim S2x4096 ![] bcast_S_S2x4096 main_cst_14
  let main_v50 : IVec S2x4096 1 := cmpf .olt main_v4 main_v49
  let main_v51 : IVec S2x4096 1 := andi main_v48 main_v50
  (main_v46, main_v51)

def fn_part1 {F : FTy → Type} [FloatOps F] (main_v2 : FVec F S2x4096 .f32) (main_v4 : FVec F S2x4096 .f32) (main_v5 : FVec F S32 .f32) (main_v17 : FVec F S32 .f32) : IVec S2x32 1 × IVec S2x4096 1 :=
  let main_cst_5 : FVec F S_ .f32 := constant S_ .f32 0x3CC00219#32
  let main_v18 : FVec F S32 .f32 := broadcastInDim S32 ![] bcast_S_S32 main_cst_5
  let main_v19 : FVec F S32 .f32 := subf main_v17 main_v18
  let main_cst_6 : FVec F S_ .f32 := constant S_ .f32 0x40800000#32
  let main_v20 : FVec F S32 .f32 := broadcastInDim S32 ![] bcast_S_S32 main_cst_6
  let main_v21 : FVec F S32 .f32 := mulf main_v5 main_v20
  let main_cst_7 : FVec F S_ .f32 := constant S_ .f32 0x40000000#32
  let main_v22 : FVec F S32 .f32 := broadcastInDim S32 ![] bcast_S_S32 main_cst_7
  let main_v23 : FVec F S32 .f32 := mulf main_v22 main_v21
  let main_cst_8 : FVec F S_ .f32 := constant S_ .f32 0x3F800000#32
  let main_v24 : FVec F S32 .f32 := broadcastInDim S32 ![] bcast_S_S32 main_cst_8
  let main_v25 : FVec F S32 .f32 := addf main_v23 main_v24
  let main_cst_9 : FVec F S_ .f32 := constant S_ .f32 0x43000000#32
  let main_v26 : FVec F S32 .f32 := broadcastInDim S32 ![] bcast_S_S32 main_cst_9
  let main_v27 : FVec F S32 .f32 := Host.divf main_v25 main_v26
  let main_cst_10 : FVec F S_ .f32 := constant S_ .f32 0x3F800000#32
  let main_v28 : FVec F S32 .f32 := broadcastInDim S32 ![] bcast_S_S32 main_cst_10
  let main_v29 : FVec F S32 .f32 := subf main_v28 main_v27
  let main_cst_11 : FVec F S_ .f32 := constant S_ .f32 0x3CC00219#32
  let main_v30 : FVec F S32 .f32 := broadcastInDim S32 ![] bcast_S_S32 main_cst_11
  let main_v31 : FVec F S32 .f32 := addf main_v29 main_v30
  let main_v32 : FVec F S2x1x4096 .f32 := broadcastInDim S2x1x4096 ![0, 2] bcast_S2x4096_S2x1x4096_0_2 main_v2
  let main_v33 : FVec F S1x32x1 .f32 := broadcastInDim S1x32x1 ![1] bcast_S32_S1x32x1_1 main_v19
  let main_v34 : FVec F S2x32x4096 .f32 := broadcastInDim S2x32x4096 ![0, 1, 2] bcast_S2x1x4096_S2x32x4096_0_1_2 main_v32
  fn_part2 (F := F) main_v2 main_v4 main_v31 main_v33 main_v34

def fn {F : FTy → Type} [FloatOps F] (main_arg0 : FVec F S2x4096x3 .f32) (main_arg1 : FVec F S2x4096x64 .f32) : IVec S2x32 1 × IVec S2x4096 1 :=
  let main_v0 : FVec F S2x4096x1 .f32 := (extractStridedSlice S2x4096x1 ![0, 0, 1] · slices_S2x4096x3_S2x4096x1_0_0_1) main_arg0
  let main_v1 : FVec F S2x4096 .f32 := shapeCast S2x4096 main_v0 shapeCasts_S2x4096x1_S2x4096
  let main_v2 : FVec F S2x4096 .f32 := Host.negf main_v1
  let main_v3 : FVec F S2x4096x1 .f32 := (extractStridedSlice S2x4096x1 ![0, 0, 2] · slices_S2x4096x3_S2x4096x1_0_0_2) main_arg0
  let main_v4 : FVec F S2x4096 .f32 := shapeCast S2x4096 main_v3 shapeCasts_S2x4096x1_S2x4096
  let main_v5 : FVec F S32 .f32 := sitofp .f32 (iotaInDim S32 32 0)
  let main_cst : FVec F S_ .f32 := constant S_ .f32 0x40800000#32
  let main_v6 : FVec F S32 .f32 := broadcastInDim S32 ![] bcast_S_S32 main_cst
  let main_v7 : FVec F S32 .f32 := mulf main_v5 main_v6
  let main_cst_0 : FVec F S_ .f32 := constant S_ .f32 0x40400000#32
  let main_v8 : FVec F S32 .f32 := broadcastInDim S32 ![] bcast_S_S32 main_cst_0
  let main_v9 : FVec F S32 .f32 := addf main_v7 main_v8
  let main_cst_1 : FVec F S_ .f32 := constant S_ .f32 0x40000000#32
  let main_v10 : FVec F S32 .f32 := broadcastInDim S32 ![] bcast_S_S32 main_cst_1
  let main_v11 : FVec F S32 .f32 := mulf main_v10 main_v9
  let main_cst_2 : FVec F S_ .f32 := constant S_ .f32 0x3F800000#32
  let main_v12 : FVec F S32 .f32 := broadcastInDim S32 ![] bcast_S_S32 main_cst_2
  let main_v13 : FVec F S32 .f32 := addf main_v11 main_v12
  let main_cst_3 : FVec F S_ .f32 := constant S_ .f32 0x43000000#32
  let main_v14 : FVec F S32 .f32 := broadcastInDim S32 ![] bcast_S_S32 main_cst_3
  let main_v15 : FVec F S32 .f32 := Host.divf main_v13 main_v14
  let main_cst_4 : FVec F S_ .f32 := constant S_ .f32 0x3F800000#32
  let main_v16 : FVec F S32 .f32 := broadcastInDim S32 ![] bcast_S_S32 main_cst_4
  let main_v17 : FVec F S32 .f32 := subf main_v16 main_v15
  fn_part1 (F := F) main_v2 main_v4 main_v5 main_v17
-- ==== Kernel.lean ====
abbrev S2x4096x3 : Shape := ⟨3, ![2, 4096, 3]⟩
abbrev S2x4096x64 : Shape := ⟨3, ![2, 4096, 64]⟩
abbrev S3 : Shape := ⟨1, ![3]⟩
abbrev S1x1x3 : Shape := ⟨3, ![1, 1, 3]⟩
abbrev S2x4096x1 : Shape := ⟨3, ![2, 4096, 1]⟩
abbrev S2x4096 : Shape := ⟨2, ![2, 4096]⟩
abbrev S_ : Shape := ⟨0, ![]⟩
abbrev S1 : Shape := ⟨1, ![1]⟩
abbrev S1x1x1 : Shape := ⟨3, ![1, 1, 1]⟩
abbrev S4096 : Shape := ⟨1, ![4096]⟩
abbrev S1x4096 : Shape := ⟨2, ![1, 4096]⟩
abbrev S2x1x4096 : Shape := ⟨3, ![2, 1, 4096]⟩
abbrev S2x1x344 : Shape := ⟨3, ![2, 1, 344]⟩
abbrev S2x1x4440 : Shape := ⟨3, ![2, 1, 4440]⟩
abbrev S2x4440 : Shape := ⟨2, ![2, 4440]⟩
abbrev S2x512 : Shape := ⟨2, ![2, 512]⟩
abbrev S2x4952 : Shape := ⟨2, ![2, 4952]⟩
abbrev S2x1x4952 : Shape := ⟨3, ![2, 1, 4952]⟩
abbrev S2x4x4952 : Shape := ⟨3, ![2, 4, 4952]⟩
abbrev S2x4952x4 : Shape := ⟨3, ![2, 4952, 4]⟩
abbrev S2 : Shape := ⟨1, ![2]⟩
abbrev S2x1 : Shape := ⟨2, ![2, 1]⟩
abbrev S8192 : Shape := ⟨1, ![8192]⟩
abbrev S8192x64 : Shape := ⟨2, ![8192, 64]⟩
abbrev S8192x1 : Shape := ⟨2, ![8192, 1]⟩
abbrev S2x1x4096x64 : Shape := ⟨4, ![2, 1, 4096, 64]⟩
abbrev S2x1x344x64 : Shape := ⟨4, ![2, 1, 344, 64]⟩
abbrev S2x1x4440x64 : Shape := ⟨4, ![2, 1, 4440, 64]⟩
abbrev S2x4440x64 : Shape := ⟨3, ![2, 4440, 64]⟩
abbrev S2x512x64 : Shape := ⟨3, ![2, 512, 64]⟩
abbrev S2x4952x64 : Shape := ⟨3, ![2, 4952, 64]⟩
abbrev S32 : Shape := ⟨1, ![32]⟩
abbrev S2x1x1x4096 : Shape := ⟨4, ![2, 1, 1, 4096]⟩
abbrev S1x32x1x1 : Shape := ⟨4, ![1, 32, 1, 1]⟩
abbrev S2x32x1x4096 : Shape := ⟨4, ![2, 32, 1, 4096]⟩
abbrev S2x32x1 : Shape := ⟨3, ![2, 32, 1]⟩
abbrev S2x32x1x1 : Shape := ⟨4, ![2, 32, 1, 1]⟩
abbrev S2x64x16384 : Shape := ⟨3, ![2, 64, 16384]⟩
abbrev S1x1x1x1 : Shape := ⟨4, ![1, 1, 1, 1]⟩
abbrev S1x4952x4 : Shape := ⟨3, ![1, 4952, 4]⟩
abbrev S1x4x4952 : Shape := ⟨3, ![1, 4, 4952]⟩
abbrev S1x4952x64 : Shape := ⟨3, ![1, 4952, 64]⟩
abbrev S1x64x512 : Shape := ⟨3, ![1, 64, 512]⟩
abbrev S1x512 : Shape := ⟨2, ![1, 512]⟩
abbrev S64x512 : Shape := ⟨2, ![64, 512]⟩
abbrev S1x344x4 : Shape := ⟨3, ![1, 344, 4]⟩
abbrev S344x4 : Shape := ⟨2, ![344, 4]⟩
abbrev S1x344x64 : Shape := ⟨3, ![1, 344, 64]⟩
abbrev S344x64 : Shape := ⟨2, ![344, 64]⟩
abbrev S344x1 : Shape := ⟨2, ![344, 1]⟩
abbrev S1x2x512 : Shape := ⟨3, ![1, 2, 512]⟩
abbrev S1x344 : Shape := ⟨2, ![1, 344]⟩
abbrev S344x512 : Shape := ⟨2, ![344, 512]⟩
abbrev S344x1024 : Shape := ⟨2, ![344, 1024]⟩
abbrev S344x344 : Shape := ⟨2, ![344, 344]⟩
abbrev S2x64x128x128 : Shape := ⟨4, ![2, 64, 128, 128]⟩

abbrev nBuf : Space → Nat
  | .hbm => 285
  | .vmem => 8
  | .smem => 2
  | _ => 0

abbrev hbmTy0_0 (i : Nat) : BufTy := match i % 128 with
  | 0 => ⟨S2x4096x3, .f32⟩
  | 1 => ⟨S2x4096x64, .f32⟩
  | 2 => ⟨S3, .f32⟩
  | 3 => ⟨S1x1x3, .f32⟩
  | 4 => ⟨S2x4096x3, .f32⟩
  | 5 => ⟨S2x4096x3, .f32⟩
  | 6 => ⟨S2x4096x1, .f32⟩
  | 7 => ⟨S2x4096, .f32⟩
  | 8 => ⟨S2x4096x1, .f32⟩
  | 9 => ⟨S2x4096, .f32⟩
  | 10 => ⟨S2x4096x1, .f32⟩
  | 11 => ⟨S2x4096, .f32⟩
  | 12 => ⟨S2x4096, .i32⟩
  | 13 => ⟨S2x4096, .f32⟩
  | 14 => ⟨S2x4096, .i32⟩
  | 15 => ⟨S_, .i32⟩
  | 16 => ⟨S2x4096, .i32⟩
  | 17 => ⟨S2x4096, .i1⟩
  | 18 => ⟨S_, .i32⟩
  | 19 => ⟨S2x4096, .i32⟩
  | 20 => ⟨S2x4096, .i32⟩
  | 21 => ⟨S2x4096, .i32⟩
  | 22 => ⟨S2x4096x1, .i32⟩
  | 23 => ⟨S1, .i32⟩
  | 24 => ⟨S_, .i32⟩
  | 25 => ⟨S2x4096x1, .i32⟩
  | 26 => ⟨S2x4096x1, .i1⟩
  | 27 => ⟨S1x1x1, .i32⟩
  | 28 => ⟨S2x4096x1, .i32⟩
  | 29 => ⟨S2x4096x1, .i1⟩
  | 30 => ⟨S2x4096x1, .i1⟩
  | 31 => ⟨S_, .i1⟩
  | 32 => ⟨S2x4096, .i1⟩
  | 33 => ⟨S2x4096, .f32⟩
  | 34 => ⟨S_, .f32⟩
  | 35 => ⟨S2x4096, .f32⟩
  | 36 => ⟨S2x4096, .f32⟩
  | 37 => ⟨S4096, .i32⟩
  | 38 => ⟨S_, .i32⟩
  | 39 => ⟨S_, .i32⟩
  | 40 => ⟨S4096, .i32⟩
  | 41 => ⟨S4096, .i32⟩
  | 42 => ⟨S4096, .i32⟩
  | 43 => ⟨S_, .i32⟩
  | 44 => ⟨S4096, .i32⟩
  | 45 => ⟨S4096, .i1⟩
  | 46 => ⟨S4096, .i32⟩
  | 47 => ⟨S4096, .i32⟩
  | 48 => ⟨S_, .i32⟩
  | 49 => ⟨S4096, .i32⟩
  | 50 => ⟨S4096, .i1⟩
  | 51 => ⟨S4096, .i1⟩
  | 52 => ⟨S_, .i32⟩
  | 53 => ⟨S4096, .i32⟩
  | 54 => ⟨S4096, .i32⟩
  | 55 => ⟨S4096, .i32⟩
  | 56 => ⟨S4096, .f32⟩
  | 57 => ⟨S1x4096, .f32⟩
  | 58 => ⟨S_, .f32⟩
  | 59 => ⟨S1x4096, .f32⟩
  | 60 => ⟨S1x4096, .f32⟩
  | 61 => ⟨S2x4096, .f32⟩
  | 62 => ⟨S2x4096, .f32⟩
  | 63 => ⟨S2x4096, .i32⟩
  | 64 => ⟨S2x4096, .f32⟩
  | 65 => ⟨S2x4096, .i32⟩
  | 66 => ⟨S_, .i32⟩
  | 67 => ⟨S2x4096, .i32⟩
  | 68 => ⟨S2x4096, .i1⟩
  | 69 => ⟨S_, .i32⟩
  | 70 => ⟨S2x4096, .i32⟩
  | 71 => ⟨S2x4096, .i32⟩
  | 72 => ⟨S2x4096, .i32⟩
  | 73 => ⟨S2x4096x1, .i32⟩
  | 74 => ⟨S1, .i32⟩
  | 75 => ⟨S_, .i32⟩
  | 76 => ⟨S2x4096x1, .i32⟩
  | 77 => ⟨S2x4096x1, .i1⟩
  | 78 => ⟨S1x1x1, .i32⟩
  | 79 => ⟨S2x4096x1, .i32⟩
  | 80 => ⟨S2x4096x1, .i1⟩
  | 81 => ⟨S2x4096x1, .i1⟩
  | 82 => ⟨S_, .i1⟩
  | 83 => ⟨S2x4096, .i1⟩
  | 84 => ⟨S2x4096, .i32⟩
  | 85 => ⟨S_, .i32⟩
  | 86 => ⟨S2x4096, .i32⟩
  | 87 => ⟨S2x4096, .i32⟩
  | 88 => ⟨S_, .i32⟩
  | 89 => ⟨S2x4096, .i32⟩
  | 90 => ⟨S2x4096, .i1⟩
  | 91 => ⟨S_, .i32⟩
  | 92 => ⟨S2x4096, .i32⟩
  | 93 => ⟨S2x4096, .i32⟩
  | 94 => ⟨S2x4096, .i32⟩
  | 95 => ⟨S2x4096x1, .i32⟩
  | 96 => ⟨S1, .i32⟩
  | 97 => ⟨S_, .i32⟩
  | 98 => ⟨S2x4096x1, .i32⟩
  | 99 => ⟨S2x4096x1, .i1⟩
  | 100 => ⟨S1x1x1, .i32⟩
  | 101 => ⟨S2x4096x1, .i32⟩
  | 102 => ⟨S2x4096x1, .i1⟩
  | 103 => ⟨S2x4096x1, .i1⟩
  | 104 => ⟨S_, .i1⟩
  | 105 => ⟨S2x4096, .i1⟩
  | 106 => ⟨S2x4096, .f32⟩
  | 107 => ⟨S_, .f32⟩
  | 108 => ⟨S2x4096, .f32⟩
  | 109 => ⟨S2x4096, .f32⟩
  | 110 => ⟨S_, .i32⟩
  | 111 => ⟨S2x4096, .i32⟩
  | 112 => ⟨S2x4096, .i1⟩
  | 113 => ⟨S_, .i32⟩
  | 114 => ⟨S2x4096, .i32⟩
  | 115 => ⟨S2x4096, .i32⟩
  | 116 => ⟨S2x4096, .i32⟩
  | 117 => ⟨S2x4096x1, .i32⟩
  | 118 => ⟨S1, .i32⟩
  | 119 => ⟨S_, .i32⟩
  | 120 => ⟨S2x4096x1, .i32⟩
  | 121 => ⟨S2x4096x1, .i1⟩
  | 122 => ⟨S1x1x1, .i32⟩
  | 123 => ⟨S2x4096x1, .i32⟩
  | 124 => ⟨S2x4096x1, .i1⟩
  | 125 => ⟨S2x4096x1, .i1⟩
  | 126 => ⟨S_, .i1⟩
  | 127 => ⟨S2x4096, .i1⟩
  | _ => ⟨S2x4096x3, .f32⟩

abbrev hbmTy0_1 (i : Nat) : BufTy := match i % 128 with
  | 0 => ⟨S2x4096, .f32⟩
  | 1 => ⟨S_, .f32⟩
  | 2 => ⟨S2x4096, .f32⟩
  | 3 => ⟨S2x4096, .f32⟩
  | 4 => ⟨S_, .i32⟩
  | 5 => ⟨S2x4096, .i32⟩
  | 6 => ⟨S2x4096, .i1⟩
  | 7 => ⟨S_, .i32⟩
  | 8 => ⟨S2x4096, .i32⟩
  | 9 => ⟨S2x4096, .i32⟩
  | 10 => ⟨S2x4096, .i32⟩
  | 11 => ⟨S2x4096x1, .i32⟩
  | 12 => ⟨S1, .i32⟩
  | 13 => ⟨S_, .i32⟩
  | 14 => ⟨S2x4096x1, .i32⟩
  | 15 => ⟨S2x4096x1, .i1⟩
  | 16 => ⟨S1x1x1, .i32⟩
  | 17 => ⟨S2x4096x1, .i32⟩
  | 18 => ⟨S2x4096x1, .i1⟩
  | 19 => ⟨S2x4096x1, .i1⟩
  | 20 => ⟨S_, .i1⟩
  | 21 => ⟨S2x4096, .i1⟩
  | 22 => ⟨S2x4096, .f32⟩
  | 23 => ⟨S_, .f32⟩
  | 24 => ⟨S2x4096, .f32⟩
  | 25 => ⟨S2x4096, .f32⟩
  | 26 => ⟨S2x4096, .f32⟩
  | 27 => ⟨S2x1x4096, .f32⟩
  | 28 => ⟨S_, .f32⟩
  | 29 => ⟨S2x1x344, .f32⟩
  | 30 => ⟨S2x1x4440, .f32⟩
  | 31 => ⟨S2x4440, .f32⟩
  | 32 => ⟨S_, .f32⟩
  | 33 => ⟨S2x512, .f32⟩
  | 34 => ⟨S2x4952, .f32⟩
  | 35 => ⟨S2x1x4096, .f32⟩
  | 36 => ⟨S_, .f32⟩
  | 37 => ⟨S2x1x344, .f32⟩
  | 38 => ⟨S2x1x4440, .f32⟩
  | 39 => ⟨S2x4440, .f32⟩
  | 40 => ⟨S_, .f32⟩
  | 41 => ⟨S2x512, .f32⟩
  | 42 => ⟨S2x4952, .f32⟩
  | 43 => ⟨S2x1x4096, .f32⟩
  | 44 => ⟨S_, .f32⟩
  | 45 => ⟨S2x1x344, .f32⟩
  | 46 => ⟨S2x1x4440, .f32⟩
  | 47 => ⟨S2x4440, .f32⟩
  | 48 => ⟨S_, .f32⟩
  | 49 => ⟨S2x512, .f32⟩
  | 50 => ⟨S2x4952, .f32⟩
  | 51 => ⟨S2x1x4096, .f32⟩
  | 52 => ⟨S_, .f32⟩
  | 53 => ⟨S2x1x344, .f32⟩
  | 54 => ⟨S2x1x4440, .f32⟩
  | 55 => ⟨S2x4440, .f32⟩
  | 56 => ⟨S_, .f32⟩
  | 57 => ⟨S2x512, .f32⟩
  | 58 => ⟨S2x4952, .f32⟩
  | 59 => ⟨S2x1x4952, .f32⟩
  | 60 => ⟨S2x1x4952, .f32⟩
  | 61 => ⟨S2x1x4952, .f32⟩
  | 62 => ⟨S2x1x4952, .f32⟩
  | 63 => ⟨S2x4x4952, .f32⟩
  | 64 => ⟨S2x4952x4, .f32⟩
  | 65 => ⟨S2, .i32⟩
  | 66 => ⟨S_, .i32⟩
  | 67 => ⟨S2, .i32⟩
  | 68 => ⟨S2, .i32⟩
  | 69 => ⟨S2x1, .i32⟩
  | 70 => ⟨S2x4096, .i32⟩
  | 71 => ⟨S2x4096, .i32⟩
  | 72 => ⟨S8192, .i32⟩
  | 73 => ⟨S8192x64, .f32⟩
  | 74 => ⟨S_, .i32⟩
  | 75 => ⟨S8192, .i32⟩
  | 76 => ⟨S8192, .i1⟩
  | 77 => ⟨S_, .i32⟩
  | 78 => ⟨S8192, .i32⟩
  | 79 => ⟨S8192, .i32⟩
  | 80 => ⟨S8192, .i32⟩
  | 81 => ⟨S8192x1, .i32⟩
  | 82 => ⟨S8192x64, .f32⟩
  | 83 => ⟨S2x4096x64, .f32⟩
  | 84 => ⟨S2x1x4096x64, .f32⟩
  | 85 => ⟨S_, .f32⟩
  | 86 => ⟨S2x1x344x64, .f32⟩
  | 87 => ⟨S2x1x4440x64, .f32⟩
  | 88 => ⟨S2x4440x64, .f32⟩
  | 89 => ⟨S_, .f32⟩
  | 90 => ⟨S2x512x64, .f32⟩
  | 91 => ⟨S2x4952x64, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S_, .f32⟩
  | 109 => ⟨S32, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S2x1x4096, .f32⟩
  | 118 => ⟨S2x1x1x4096, .f32⟩
  | 119 => ⟨S1x32x1x1, .f32⟩
  | 120 => ⟨S2x32x1x4096, .f32⟩
  | 121 => ⟨S2x32x1x4096, .f32⟩
  | 122 => ⟨S2x32x1x4096, .i1⟩
  | 123 => ⟨S2x32x1x4096, .i32⟩
  | 124 => ⟨S_, .i32⟩
  | 125 => ⟨S2x32x1, .i32⟩
  | 126 => ⟨S_, .i32⟩
  | 127 => ⟨S_, .i32⟩
  | _ => ⟨S2x4096x3, .f32⟩

abbrev hbmTy0_2 (i : Nat) : BufTy := match i % 128 with
  | 0 => ⟨S2x32x1, .i32⟩
  | 1 => ⟨S2x32x1, .i32⟩
  | 2 => ⟨S2x32x1, .i32⟩
  | 3 => ⟨S_, .i32⟩
  | 4 => ⟨S2x32x1, .i32⟩
  | 5 => ⟨S2x32x1, .i1⟩
  | 6 => ⟨S2x32x1, .i32⟩
  | 7 => ⟨S2x32x1, .i32⟩
  | 8 => ⟨S_, .i32⟩
  | 9 => ⟨S2x32x1, .i32⟩
  | 10 => ⟨S2x32x1, .i1⟩
  | 11 => ⟨S2x32x1, .i1⟩
  | 12 => ⟨S_, .i32⟩
  | 13 => ⟨S2x32x1, .i32⟩
  | 14 => ⟨S2x32x1, .i32⟩
  | 15 => ⟨S2x32x1, .i32⟩
  | 16 => ⟨S_, .i32⟩
  | 17 => ⟨S2x32x1, .i32⟩
  | 18 => ⟨S2x32x1, .i32⟩
  | 19 => ⟨S1, .i32⟩
  | 20 => ⟨S_, .i32⟩
  | 21 => ⟨S1, .i32⟩
  | 22 => ⟨S1, .i32⟩
  | 23 => ⟨S1x1x1, .i32⟩
  | 24 => ⟨S2x32x1, .i32⟩
  | 25 => ⟨S2x32x1, .i32⟩
  | 26 => ⟨S2x32x1x1, .i32⟩
  | 27 => ⟨S2x64x16384, .f32⟩
  | 28 => ⟨S2x64x128x128, .f32⟩
  | _ => ⟨S2x4096x3, .f32⟩

abbrev hbmTy (i : Nat) : BufTy := match i / 128 with
  | 0 => hbmTy0_0 i
  | 1 => hbmTy0_1 i
  | 2 => hbmTy0_2 i
  | _ => ⟨S2x4096x3, .f32⟩

abbrev bufTy : (tb : Table) → Fin (tcTables nBuf tb) → BufTy
  | .hbm, ⟨i, _⟩ => hbmTy i
  | .local _ .vmem, ⟨0, _⟩ => ⟨S1x4952x4, .f32⟩
  | .local _ .vmem, ⟨1, _⟩ => ⟨S1x4952x4, .f32⟩
  | .local _ .vmem, ⟨2, _⟩ => ⟨S1x4x4952, .f32⟩
  | .local _ .vmem, ⟨3, _⟩ => ⟨S1x4x4952, .f32⟩
  | .local _ .vmem, ⟨4, _⟩ => ⟨S1x4952x64, .f32⟩
  | .local _ .vmem, ⟨5, _⟩ => ⟨S1x4952x64, .f32⟩
  | .local _ .vmem, ⟨6, _⟩ => ⟨S1x64x512, .f32⟩
  | .local _ .vmem, ⟨7, _⟩ => ⟨S1x64x512, .f32⟩
  | .local _ .smem, ⟨0, _⟩ => ⟨S1x1x1x1, .i32⟩
  | .local _ .smem, ⟨1, _⟩ => ⟨S1x1x1x1, .i32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1_0 : Ref sig .tc := ⟨.hbm, 13, rfl⟩
abbrev main_v9 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_cst : Ref sig .tc := ⟨.hbm, 34, rfl⟩
abbrev main_call1_v14 : Ref sig .tc := ⟨.hbm, 35, rfl⟩
abbrev main_v10 : Ref sig .tc := ⟨.hbm, 36, rfl⟩
abbrev main_v11 : Ref sig .tc := ⟨.hbm, 37, rfl⟩
abbrev main_c : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_c : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_0 : Ref sig .tc := ⟨.hbm, 52, rfl⟩
abbrev main_call2_v12 : Ref sig .tc := ⟨.hbm, 53, rfl⟩
abbrev main_call2_v13 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_cst_0 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_call3_v0 : Ref sig .tc := ⟨.hbm, 63, rfl⟩
abbrev main_call3_v1_0 : Ref sig .tc := ⟨.hbm, 64, rfl⟩
abbrev main_v19 : Ref sig .tc := ⟨.hbm, 65, rfl⟩
abbrev main_call4_c : Ref sig .tc := ⟨.hbm, 66, rfl⟩
abbrev main_call4_v0 : Ref sig .tc := ⟨.hbm, 67, rfl⟩
abbrev main_call4_v1 : Ref sig .tc := ⟨.hbm, 68, rfl⟩
abbrev main_call4_c_0 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_v5 : Ref sig .tc := ⟨.hbm, 73, rfl⟩
abbrev main_call4_c_1 : Ref sig .tc := ⟨.hbm, 74, rfl⟩
abbrev main_call4_c_2 : Ref sig .tc := ⟨.hbm, 75, rfl⟩
abbrev main_call4_v6 : Ref sig .tc := ⟨.hbm, 76, rfl⟩
abbrev main_call4_v7 : Ref sig .tc := ⟨.hbm, 77, rfl⟩
abbrev main_call4_v8 : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_call4_c_3 : Ref sig .tc := ⟨.hbm, 82, rfl⟩
abbrev main_call4_v12 : Ref sig .tc := ⟨.hbm, 83, rfl⟩
abbrev main_call4_v13 : Ref sig .tc := ⟨.hbm, 84, rfl⟩
abbrev main_call4_c_4 : Ref sig .tc := ⟨.hbm, 85, rfl⟩
abbrev main_call4_v14 : Ref sig .tc := ⟨.hbm, 86, rfl⟩
abbrev main_v20 : Ref sig .tc := ⟨.hbm, 87, rfl⟩
abbrev main_call5_c : Ref sig .tc := ⟨.hbm, 88, rfl⟩
abbrev main_call5_v0 : Ref sig .tc := ⟨.hbm, 89, rfl⟩
abbrev main_call5_v1 : Ref sig .tc := ⟨.hbm, 90, rfl⟩
abbrev main_call5_c_0 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_call5_v5 : Ref sig .tc := ⟨.hbm, 95, rfl⟩
abbrev main_call5_c_1 : Ref sig .tc := ⟨.hbm, 96, rfl⟩
abbrev main_call5_c_2 : Ref sig .tc := ⟨.hbm, 97, rfl⟩
abbrev main_call5_v6 : Ref sig .tc := ⟨.hbm, 98, rfl⟩
abbrev main_call5_v7 : Ref sig .tc := ⟨.hbm, 99, rfl⟩
abbrev main_call5_v8 : Ref sig .tc := ⟨.hbm, 100, rfl⟩
abbrev main_call5_v9 : Ref sig .tc := ⟨.hbm, 101, rfl⟩
abbrev main_call5_v10 : Ref sig .tc := ⟨.hbm, 102, rfl⟩
abbrev main_call5_v11 : Ref sig .tc := ⟨.hbm, 103, rfl⟩
abbrev main_call5_c_3 : Ref sig .tc := ⟨.hbm, 104, rfl⟩
abbrev main_call5_v12 : Ref sig .tc := ⟨.hbm, 105, rfl⟩
abbrev main_call5_v13 : Ref sig .tc := ⟨.hbm, 106, rfl⟩
abbrev main_call5_cst : Ref sig .tc := ⟨.hbm, 107, rfl⟩
abbrev main_call5_v14 : Ref sig .tc := ⟨.hbm, 108, rfl⟩
abbrev main_v21 : Ref sig .tc := ⟨.hbm, 109, rfl⟩
abbrev main_call6_c : Ref sig .tc := ⟨.hbm, 110, rfl⟩
abbrev main_call6_v0 : Ref sig .tc := ⟨.hbm, 111, rfl⟩
abbrev main_call6_v1 : Ref sig .tc := ⟨.hbm, 112, rfl⟩
abbrev main_call6_c_0 : Ref sig .tc := ⟨.hbm, 113, rfl⟩
abbrev main_call6_v2 : Ref sig .tc := ⟨.hbm, 114, rfl⟩
abbrev main_call6_v3 : Ref sig .tc := ⟨.hbm, 115, rfl⟩
abbrev main_call6_v4 : Ref sig .tc := ⟨.hbm, 116, rfl⟩
abbrev main_call6_v5 : Ref sig .tc := ⟨.hbm, 117, rfl⟩
abbrev main_call6_c_1 : Ref sig .tc := ⟨.hbm, 118, rfl⟩
abbrev main_call6_c_2 : Ref sig .tc := ⟨.hbm, 119, rfl⟩
abbrev main_call6_v6 : Ref sig .tc := ⟨.hbm, 120, rfl⟩
abbrev main_call6_v7 : Ref sig .tc := ⟨.hbm, 121, rfl⟩
abbrev main_call6_v8 : Ref sig .tc := ⟨.hbm, 122, rfl⟩
abbrev main_call6_v9 : Ref sig .tc := ⟨.hbm, 123, rfl⟩
abbrev main_call6_v10 : Ref sig .tc := ⟨.hbm, 124, rfl⟩
abbrev main_call6_v11 : Ref sig .tc := ⟨.hbm, 125, rfl⟩
abbrev main_call6_c_3 : Ref sig .tc := ⟨.hbm, 126, rfl⟩
abbrev main_call6_v12 : Ref sig .tc := ⟨.hbm, 127, rfl⟩
abbrev main_call6_v13 : Ref sig .tc := ⟨.hbm, 128, rfl⟩
abbrev main_call6_cst : Ref sig .tc := ⟨.hbm, 129, rfl⟩
abbrev main_call6_v14 : Ref sig .tc := ⟨.hbm, 130, rfl⟩
abbrev main_v22 : Ref sig .tc := ⟨.hbm, 131, rfl⟩
abbrev main_call7_c : Ref sig .tc := ⟨.hbm, 132, rfl⟩
abbrev main_call7_v0 : Ref sig .tc := ⟨.hbm, 133, rfl⟩
abbrev main_call7_v1 : Ref sig .tc := ⟨.hbm, 134, rfl⟩
abbrev main_call7_c_0 : Ref sig .tc := ⟨.hbm, 135, rfl⟩
abbrev main_call7_v2 : Ref sig .tc := ⟨.hbm, 136, rfl⟩
abbrev main_call7_v3 : Ref sig .tc := ⟨.hbm, 137, rfl⟩
abbrev main_call7_v4 : Ref sig .tc := ⟨.hbm, 138, rfl⟩
abbrev main_call7_v5 : Ref sig .tc := ⟨.hbm, 139, rfl⟩
abbrev main_call7_c_1 : Ref sig .tc := ⟨.hbm, 140, rfl⟩
abbrev main_call7_c_2 : Ref sig .tc := ⟨.hbm, 141, rfl⟩
abbrev main_call7_v6 : Ref sig .tc := ⟨.hbm, 142, rfl⟩
abbrev main_call7_v7 : Ref sig .tc := ⟨.hbm, 143, rfl⟩
abbrev main_call7_v8 : Ref sig .tc := ⟨.hbm, 144, rfl⟩
abbrev main_call7_v9 : Ref sig .tc := ⟨.hbm, 145, rfl⟩
abbrev main_call7_v10 : Ref sig .tc := ⟨.hbm, 146, rfl⟩
abbrev main_call7_v11 : Ref sig .tc := ⟨.hbm, 147, rfl⟩
abbrev main_call7_c_3 : Ref sig .tc := ⟨.hbm, 148, rfl⟩
abbrev main_call7_v12 : Ref sig .tc := ⟨.hbm, 149, rfl⟩
abbrev main_call7_v13 : Ref sig .tc := ⟨.hbm, 150, rfl⟩
abbrev main_call7_cst : Ref sig .tc := ⟨.hbm, 151, rfl⟩
abbrev main_call7_v14 : Ref sig .tc := ⟨.hbm, 152, rfl⟩
abbrev main_v23 : Ref sig .tc := ⟨.hbm, 153, rfl⟩
abbrev main_v24 : Ref sig .tc := ⟨.hbm, 154, rfl⟩
abbrev main_v25 : Ref sig .tc := ⟨.hbm, 155, rfl⟩
abbrev main_cst_1 : Ref sig .tc := ⟨.hbm, 156, rfl⟩
abbrev main_v26 : Ref sig .tc := ⟨.hbm, 157, rfl⟩
abbrev main_v27 : Ref sig .tc := ⟨.hbm, 158, rfl⟩
abbrev main_v28 : Ref sig .tc := ⟨.hbm, 159, rfl⟩
abbrev main_cst_2 : Ref sig .tc := ⟨.hbm, 160, rfl⟩
abbrev main_v29 : Ref sig .tc := ⟨.hbm, 161, rfl⟩
abbrev main_v30 : Ref sig .tc := ⟨.hbm, 162, rfl⟩
abbrev main_v31 : Ref sig .tc := ⟨.hbm, 163, rfl⟩
abbrev main_cst_3 : Ref sig .tc := ⟨.hbm, 164, rfl⟩
abbrev main_v32 : Ref sig .tc := ⟨.hbm, 165, rfl⟩
abbrev main_v33 : Ref sig .tc := ⟨.hbm, 166, rfl⟩
abbrev main_v34 : Ref sig .tc := ⟨.hbm, 167, rfl⟩
abbrev main_cst_4 : Ref sig .tc := ⟨.hbm, 168, rfl⟩
abbrev main_v35 : Ref sig .tc := ⟨.hbm, 169, rfl⟩
abbrev main_v36 : Ref sig .tc := ⟨.hbm, 170, rfl⟩
abbrev main_v37 : Ref sig .tc := ⟨.hbm, 171, rfl⟩
abbrev main_cst_5 : Ref sig .tc := ⟨.hbm, 172, rfl⟩
abbrev main_v38 : Ref sig .tc := ⟨.hbm, 173, rfl⟩
abbrev main_v39 : Ref sig .tc := ⟨.hbm, 174, rfl⟩
abbrev main_v40 : Ref sig .tc := ⟨.hbm, 175, rfl⟩
abbrev main_cst_6 : Ref sig .tc := ⟨.hbm, 176, rfl⟩
abbrev main_v41 : Ref sig .tc := ⟨.hbm, 177, rfl⟩
abbrev main_v42 : Ref sig .tc := ⟨.hbm, 178, rfl⟩
abbrev main_v43 : Ref sig .tc := ⟨.hbm, 179, rfl⟩
abbrev main_cst_7 : Ref sig .tc := ⟨.hbm, 180, rfl⟩
abbrev main_v44 : Ref sig .tc := ⟨.hbm, 181, rfl⟩
abbrev main_v45 : Ref sig .tc := ⟨.hbm, 182, rfl⟩
abbrev main_v46 : Ref sig .tc := ⟨.hbm, 183, rfl⟩
abbrev main_cst_8 : Ref sig .tc := ⟨.hbm, 184, rfl⟩
abbrev main_v47 : Ref sig .tc := ⟨.hbm, 185, rfl⟩
abbrev main_v48 : Ref sig .tc := ⟨.hbm, 186, rfl⟩
abbrev main_v49 : Ref sig .tc := ⟨.hbm, 187, rfl⟩
abbrev main_v50 : Ref sig .tc := ⟨.hbm, 188, rfl⟩
abbrev main_v51 : Ref sig .tc := ⟨.hbm, 189, rfl⟩
abbrev main_v52 : Ref sig .tc := ⟨.hbm, 190, rfl⟩
abbrev main_v53 : Ref sig .tc := ⟨.hbm, 191, rfl⟩
abbrev main_v54 : Ref sig .tc := ⟨.hbm, 192, rfl⟩
abbrev main_v55 : Ref sig .tc := ⟨.hbm, 193, rfl⟩
abbrev main_c_9 : Ref sig .tc := ⟨.hbm, 194, rfl⟩
abbrev main_v56 : Ref sig .tc := ⟨.hbm, 195, rfl⟩
abbrev main_v57 : Ref sig .tc := ⟨.hbm, 196, rfl⟩
abbrev main_v58 : Ref sig .tc := ⟨.hbm, 197, rfl⟩
abbrev main_v59 : Ref sig .tc := ⟨.hbm, 198, rfl⟩
abbrev main_v60 : Ref sig .tc := ⟨.hbm, 199, rfl⟩
abbrev main_v61 : Ref sig .tc := ⟨.hbm, 200, rfl⟩
abbrev main_v62 : Ref sig .tc := ⟨.hbm, 201, rfl⟩
abbrev main_c_10 : Ref sig .tc := ⟨.hbm, 202, rfl⟩
abbrev main_v63 : Ref sig .tc := ⟨.hbm, 203, rfl⟩
abbrev main_v64 : Ref sig .tc := ⟨.hbm, 204, rfl⟩
abbrev main_c_11 : Ref sig .tc := ⟨.hbm, 205, rfl⟩
abbrev main_v65 : Ref sig .tc := ⟨.hbm, 206, rfl⟩
abbrev main_v66 : Ref sig .tc := ⟨.hbm, 207, rfl⟩
abbrev main_v67 : Ref sig .tc := ⟨.hbm, 208, rfl⟩
abbrev main_v68 : Ref sig .tc := ⟨.hbm, 209, rfl⟩
abbrev main_v69 : Ref sig .tc := ⟨.hbm, 210, rfl⟩
abbrev main_v70 : Ref sig .tc := ⟨.hbm, 211, rfl⟩
abbrev main_v71 : Ref sig .tc := ⟨.hbm, 212, rfl⟩
abbrev main_cst_12 : Ref sig .tc := ⟨.hbm, 213, rfl⟩
abbrev main_v72 : Ref sig .tc := ⟨.hbm, 214, rfl⟩
abbrev main_v73 : Ref sig .tc := ⟨.hbm, 215, rfl⟩
abbrev main_v74 : Ref sig .tc := ⟨.hbm, 216, rfl⟩
abbrev main_cst_13 : Ref sig .tc := ⟨.hbm, 217, rfl⟩
abbrev main_v75 : Ref sig .tc := ⟨.hbm, 218, rfl⟩
abbrev main_v76 : Ref sig .tc := ⟨.hbm, 219, rfl⟩
abbrev main_v77 : Ref sig .tc := ⟨.hbm, 220, rfl⟩
abbrev main_cst_14 : Ref sig .tc := ⟨.hbm, 221, rfl⟩
abbrev main_v78 : Ref sig .tc := ⟨.hbm, 222, rfl⟩
abbrev main_v79 : Ref sig .tc := ⟨.hbm, 223, rfl⟩
abbrev main_cst_15 : Ref sig .tc := ⟨.hbm, 224, rfl⟩
abbrev main_v80 : Ref sig .tc := ⟨.hbm, 225, rfl⟩
abbrev main_v81 : Ref sig .tc := ⟨.hbm, 226, rfl⟩
abbrev main_cst_16 : Ref sig .tc := ⟨.hbm, 227, rfl⟩
abbrev main_v82 : Ref sig .tc := ⟨.hbm, 228, rfl⟩
abbrev main_v83 : Ref sig .tc := ⟨.hbm, 229, rfl⟩
abbrev main_cst_17 : Ref sig .tc := ⟨.hbm, 230, rfl⟩
abbrev main_v84 : Ref sig .tc := ⟨.hbm, 231, rfl⟩
abbrev main_v85 : Ref sig .tc := ⟨.hbm, 232, rfl⟩
abbrev main_cst_18 : Ref sig .tc := ⟨.hbm, 233, rfl⟩
abbrev main_v86 : Ref sig .tc := ⟨.hbm, 234, rfl⟩
abbrev main_v87 : Ref sig .tc := ⟨.hbm, 235, rfl⟩
abbrev main_cst_19 : Ref sig .tc := ⟨.hbm, 236, rfl⟩
abbrev main_v88 : Ref sig .tc := ⟨.hbm, 237, rfl⟩
abbrev main_v89 : Ref sig .tc := ⟨.hbm, 238, rfl⟩
abbrev main_cst_20 : Ref sig .tc := ⟨.hbm, 239, rfl⟩
abbrev main_v90 : Ref sig .tc := ⟨.hbm, 240, rfl⟩
abbrev main_v91 : Ref sig .tc := ⟨.hbm, 241, rfl⟩
abbrev main_cst_21 : Ref sig .tc := ⟨.hbm, 242, rfl⟩
abbrev main_v92 : Ref sig .tc := ⟨.hbm, 243, rfl⟩
abbrev main_v93 : Ref sig .tc := ⟨.hbm, 244, rfl⟩
abbrev main_v94 : Ref sig .tc := ⟨.hbm, 245, rfl⟩
abbrev main_v95 : Ref sig .tc := ⟨.hbm, 246, rfl⟩
abbrev main_v96 : Ref sig .tc := ⟨.hbm, 247, rfl⟩
abbrev main_v97 : Ref sig .tc := ⟨.hbm, 248, rfl⟩
abbrev main_v98 : Ref sig .tc := ⟨.hbm, 249, rfl⟩
abbrev main_v99 : Ref sig .tc := ⟨.hbm, 250, rfl⟩
abbrev main_v100 : Ref sig .tc := ⟨.hbm, 251, rfl⟩
abbrev main_c_22 : Ref sig .tc := ⟨.hbm, 252, rfl⟩
abbrev main_v101 : Ref sig .tc := ⟨.hbm, 253, rfl⟩
abbrev main_c_23 : Ref sig .tc := ⟨.hbm, 254, rfl⟩
abbrev main_call8_v0 : Ref sig .tc := ⟨.hbm, 255, rfl⟩
abbrev main_call8_v1 : Ref sig .tc := ⟨.hbm, 256, rfl⟩
abbrev main_call8_v2 : Ref sig .tc := ⟨.hbm, 257, rfl⟩
abbrev main_call8_v3 : Ref sig .tc := ⟨.hbm, 258, rfl⟩
abbrev main_call8_v4 : Ref sig .tc := ⟨.hbm, 259, rfl⟩
abbrev main_call8_v5 : Ref sig .tc := ⟨.hbm, 260, rfl⟩
abbrev main_call8_v6 : Ref sig .tc := ⟨.hbm, 261, rfl⟩
abbrev main_call8_v7 : Ref sig .tc := ⟨.hbm, 262, rfl⟩
abbrev main_call8_v8 : Ref sig .tc := ⟨.hbm, 263, rfl⟩
abbrev main_call8_c : Ref sig .tc := ⟨.hbm, 264, rfl⟩
abbrev main_call8_v9 : Ref sig .tc := ⟨.hbm, 265, rfl⟩
abbrev main_call8_v10 : Ref sig .tc := ⟨.hbm, 266, rfl⟩
abbrev main_call8_v11 : Ref sig .tc := ⟨.hbm, 267, rfl⟩
abbrev main_call8_c_0 : Ref sig .tc := ⟨.hbm, 268, rfl⟩
abbrev main_call8_v12 : Ref sig .tc := ⟨.hbm, 269, rfl⟩
abbrev main_call8_v13 : Ref sig .tc := ⟨.hbm, 270, rfl⟩
abbrev main_v102 : Ref sig .tc := ⟨.hbm, 271, rfl⟩
abbrev main_c_24 : Ref sig .tc := ⟨.hbm, 272, rfl⟩
abbrev main_v103 : Ref sig .tc := ⟨.hbm, 273, rfl⟩
abbrev main_v104 : Ref sig .tc := ⟨.hbm, 274, rfl⟩
abbrev main_v105 : Ref sig .tc := ⟨.hbm, 275, rfl⟩
abbrev main_c_25 : Ref sig .tc := ⟨.hbm, 276, rfl⟩
abbrev main_v106 : Ref sig .tc := ⟨.hbm, 277, rfl⟩
abbrev main_v107 : Ref sig .tc := ⟨.hbm, 278, rfl⟩
abbrev main_v108 : Ref sig .tc := ⟨.hbm, 279, rfl⟩
abbrev main_v109 : Ref sig .tc := ⟨.hbm, 280, rfl⟩
abbrev main_v110 : Ref sig .tc := ⟨.hbm, 281, rfl⟩
abbrev main_v111 : Ref sig .tc := ⟨.hbm, 282, rfl⟩
abbrev main_v112 : Ref sig .tc := ⟨.hbm, 283, rfl⟩
abbrev main_v113 : Ref sig .tc := ⟨.hbm, 284, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_mult1 (v76 : BitVec 32) : BitVec 32 :=
  v76

def k0_mult2 (v76 : BitVec 32) : BitVec 32 :=
  let v77 : BitVec 32 := v76
  let c0_i32_26 : BitVec 32 := 0#32
  let v79 : BitVec 1 := Scalar.cmpi .sgt v77 c0_i32_26
  let v80 : BitVec 32 := Scalar.extui v79
  let c0_i32_27 : BitVec 32 := 0#32
  let v81 : BitVec 1 := Scalar.cmpi .slt v77 c0_i32_27
  let v82 : BitVec 32 := Scalar.extui v81
  let v83 : BitVec 32 := Scalar.subi v80 v82
  let c128_i32_25 : BitVec 32 := 128#32
  let c0_i32_28 : BitVec 32 := 0#32
  let v84 : BitVec 1 := Scalar.cmpi .sgt c128_i32_25 c0_i32_28
  let v85 : BitVec 32 := Scalar.extui v84
  let c0_i32_29 : BitVec 32 := 0#32
  let v86 : BitVec 1 := Scalar.cmpi .slt c128_i32_25 c0_i32_29
  let v87 : BitVec 32 := Scalar.extui v86
  let v88 : BitVec 32 := Scalar.subi v85 v87
  let v89 : BitVec 1 := Scalar.cmpi .ne v83 v88
  let v90 : BitVec 32 := Scalar.remsi v77 c128_i32_25
  let c0_i32_30 : BitVec 32 := 0#32
  let v91 : BitVec 1 := Scalar.cmpi .ne v90 c0_i32_30
  let v92 : BitVec 1 := Scalar.andi v89 v91
  let v78 : BitVec 32 := Scalar.divsi v77 c128_i32_25
  let c1_i32_31 : BitVec 32 := 1#32
  let v93 : BitVec 32 := Scalar.subi v78 c1_i32_31
  let v94 : BitVec 32 := Scalar.select v92 v93 v78
  let c128_i32_32 : BitVec 32 := 128#32
  let v95 : BitVec 32 := Scalar.muli v94 c128_i32_32
  v95
def k0_off1 (v76 : BitVec 32) : Fin 3 → Nat :=
  let c0_33 : Index := 0#32
  let v77 : BitVec 32 := v76
  let v98 : Index := Scalar.indexCast v77
  let c0_34 : Index := 0#32
  ![0, v98.toNat, 0]
def k0_off2 (v76 : BitVec 32) : Fin 3 → Nat :=
  let c0_35 : Index := 0#32
  let v77 : BitVec 32 := v76
  let v101 : Index := Scalar.indexCast v77
  let c0_36 : Index := 0#32
  ![0, v101.toNat, 0]
def k0_off3 (v76 : BitVec 32) : Fin 3 → Nat :=
  let c0_37 : Index := 0#32
  let c2 : Index := 2#32
  let v77 : BitVec 32 := v76
  let c0_i32_26 : BitVec 32 := 0#32
  let v79 : BitVec 1 := Scalar.cmpi .sgt v77 c0_i32_26
  let v80 : BitVec 32 := Scalar.extui v79
  let c0_i32_27 : BitVec 32 := 0#32
  let v81 : BitVec 1 := Scalar.cmpi .slt v77 c0_i32_27
  let v82 : BitVec 32 := Scalar.extui v81
  let v83 : BitVec 32 := Scalar.subi v80 v82
  let c128_i32_25 : BitVec 32 := 128#32
  let c0_i32_28 : BitVec 32 := 0#32
  let v84 : BitVec 1 := Scalar.cmpi .sgt c128_i32_25 c0_i32_28
  let v85 : BitVec 32 := Scalar.extui v84
  let c0_i32_29 : BitVec 32 := 0#32
  let v86 : BitVec 1 := Scalar.cmpi .slt c128_i32_25 c0_i32_29
  let v87 : BitVec 32 := Scalar.extui v86
  let v88 : BitVec 32 := Scalar.subi v85 v87
  let v89 : BitVec 1 := Scalar.cmpi .ne v83 v88
  let v90 : BitVec 32 := Scalar.remsi v77 c128_i32_25
  let c0_i32_30 : BitVec 32 := 0#32
  let v91 : BitVec 1 := Scalar.cmpi .ne v90 c0_i32_30
  let v92 : BitVec 1 := Scalar.andi v89 v91
  let v78 : BitVec 32 := Scalar.divsi v77 c128_i32_25
  let c1_i32_31 : BitVec 32 := 1#32
  let v93 : BitVec 32 := Scalar.subi v78 c1_i32_31
  let v94 : BitVec 32 := Scalar.select v92 v93 v78
  let c128_i32_32 : BitVec 32 := 128#32
  let v95 : BitVec 32 := Scalar.muli v94 c128_i32_32
  let v96 : BitVec 32 := v95
  let v108 : Index := Scalar.indexCast v96
  ![0, 2, v108.toNat]

def k0_chk1 (v76 : BitVec 32) : Prop :=
  (8 ∣ (k0_mult1 v76).toNat) ∧
  (128 ∣ (k0_mult2 v76).toNat) ∧
  (∀ a, (k0_off1 v76) a + S1x344x4.size a ≤ S1x4952x4.size a) ∧
  (∀ a, (k0_off2 v76) a + S1x344x64.size a ≤ S1x4952x64.size a) ∧
  (∀ a, (k0_off3 v76) a + S1x2x512.size a ≤ S1x4x4952.size a)
theorem k0_mult1_dvd : ∀ (v76 : BitVec 32) (k0_hw1 : k0_chk1 v76), 8 ∣ (k0_mult1 v76).toNat := fun v76 k0_hw1 => k0_hw1.1
theorem k0_mult2_dvd : ∀ (v76 : BitVec 32) (k0_hw1 : k0_chk1 v76), 128 ∣ (k0_mult2 v76).toNat := fun v76 k0_hw1 => k0_hw1.2.1
theorem k0_off1_inb : ∀ (v76 : BitVec 32) (k0_hw1 : k0_chk1 v76), ∀ a, (k0_off1 v76) a + S1x344x4.size a ≤ S1x4952x4.size a := fun v76 k0_hw1 => k0_hw1.2.2.1
theorem k0_off2_inb : ∀ (v76 : BitVec 32) (k0_hw1 : k0_chk1 v76), ∀ a, (k0_off2 v76) a + S1x344x64.size a ≤ S1x4952x64.size a := fun v76 k0_hw1 => k0_hw1.2.2.2.1
theorem k0_off3_inb : ∀ (v76 : BitVec 32) (k0_hw1 : k0_chk1 v76), ∀ a, (k0_off3 v76) a + S1x2x512.size a ≤ S1x4x4952.size a := fun v76 k0_hw1 => k0_hw1.2.2.2.2

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .smem S1x1x1x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4952x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x4952 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4952x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "inv_r2" => some ((16384 / 9 : ℝ) : EReal)
  | _ => none
-- ==== ReferenceIdeal.lean ====
abbrev S2x4096x3 : Shape := ⟨3, ![2, 4096, 3]⟩
abbrev S2x4096x64 : Shape := ⟨3, ![2, 4096, 64]⟩
abbrev S3 : Shape := ⟨1, ![3]⟩
abbrev S1x1x3 : Shape := ⟨3, ![1, 1, 3]⟩
abbrev S2x4096x1 : Shape := ⟨3, ![2, 4096, 1]⟩
abbrev S2x4096 : Shape := ⟨2, ![2, 4096]⟩
abbrev S128 : Shape := ⟨1, ![128]⟩
abbrev S_ : Shape := ⟨0, ![]⟩
abbrev S1x128x1 : Shape := ⟨3, ![1, 128, 1]⟩
abbrev S2x1x4096 : Shape := ⟨3, ![2, 1, 4096]⟩
abbrev S2x128x4096 : Shape := ⟨3, ![2, 128, 4096]⟩
abbrev S2x1x128x4096 : Shape := ⟨4, ![2, 1, 128, 4096]⟩
abbrev S2x128x1x4096 : Shape := ⟨4, ![2, 128, 1, 4096]⟩
abbrev S2x128x128x4096 : Shape := ⟨4, ![2, 128, 128, 4096]⟩
abbrev S2x1x1x4096 : Shape := ⟨4, ![2, 1, 1, 4096]⟩
abbrev S2x128x128x8 : Shape := ⟨4, ![2, 128, 128, 8]⟩
abbrev S2x128x128x8x1 : Shape := ⟨5, ![2, 128, 128, 8, 1]⟩
abbrev S1 : Shape := ⟨1, ![1]⟩
abbrev S1x1x1x1x1 : Shape := ⟨5, ![1, 1, 1, 1, 1]⟩
abbrev S2x128x128x1 : Shape := ⟨4, ![2, 128, 128, 1]⟩
abbrev S2x128x128 : Shape := ⟨3, ![2, 128, 128]⟩
abbrev S2x128x128x8x64 : Shape := ⟨5, ![2, 128, 128, 8, 64]⟩
abbrev S2x128x128x64 : Shape := ⟨4, ![2, 128, 128, 64]⟩
abbrev S2x64x128x128 : Shape := ⟨4, ![2, 64, 128, 128]⟩

abbrev nBuf : Space → Nat
  | .hbm => 192
  | .vmem => 0
  | .smem => 0
  | _ => 0

abbrev hbmTy0_0 (i : Nat) : BufTy := match i % 128 with
  | 0 => ⟨S2x4096x3, .f32⟩
  | 1 => ⟨S2x4096x64, .f32⟩
  | 2 => ⟨S3, .f32⟩
  | 3 => ⟨S1x1x3, .f32⟩
  | 4 => ⟨S2x4096x3, .f32⟩
  | 5 => ⟨S2x4096x3, .f32⟩
  | 6 => ⟨S2x4096x1, .f32⟩
  | 7 => ⟨S2x4096, .f32⟩
  | 8 => ⟨S2x4096x1, .f32⟩
  | 9 => ⟨S2x4096, .f32⟩
  | 10 => ⟨S2x4096x1, .f32⟩
  | 11 => ⟨S2x4096, .f32⟩
  | 12 => ⟨S128, .f32⟩
  | 13 => ⟨S_, .f32⟩
  | 14 => ⟨S128, .f32⟩
  | 15 => ⟨S128, .f32⟩
  | 16 => ⟨S_, .f32⟩
  | 17 => ⟨S128, .f32⟩
  | 18 => ⟨S128, .f32⟩
  | 19 => ⟨S_, .f32⟩
  | 20 => ⟨S128, .f32⟩
  | 21 => ⟨S128, .f32⟩
  | 22 => ⟨S_, .f32⟩
  | 23 => ⟨S128, .f32⟩
  | 24 => ⟨S128, .f32⟩
  | 25 => ⟨S1x128x1, .f32⟩
  | 26 => ⟨S2x1x4096, .f32⟩
  | 27 => ⟨S2x128x4096, .f32⟩
  | 28 => ⟨S2x128x4096, .f32⟩
  | 29 => ⟨S2x128x4096, .f32⟩
  | 30 => ⟨S2x128x4096, .f32⟩
  | 31 => ⟨S1x128x1, .f32⟩
  | 32 => ⟨S2x1x4096, .f32⟩
  | 33 => ⟨S2x128x4096, .f32⟩
  | 34 => ⟨S2x128x4096, .f32⟩
  | 35 => ⟨S2x128x4096, .f32⟩
  | 36 => ⟨S2x128x4096, .f32⟩
  | 37 => ⟨S2x1x128x4096, .f32⟩
  | 38 => ⟨S2x128x1x4096, .f32⟩
  | 39 => ⟨S2x128x128x4096, .f32⟩
  | 40 => ⟨S2x128x128x4096, .f32⟩
  | 41 => ⟨S2x128x128x4096, .f32⟩
  | 42 => ⟨S2x1x1x4096, .f32⟩
  | 43 => ⟨S_, .f32⟩
  | 44 => ⟨S2x128x128x4096, .f32⟩
  | 45 => ⟨S2x128x128x4096, .i1⟩
  | 46 => ⟨S_, .f32⟩
  | 47 => ⟨S2x1x1x4096, .f32⟩
  | 48 => ⟨S2x1x1x4096, .i1⟩
  | 49 => ⟨S2x128x128x4096, .i1⟩
  | 50 => ⟨S2x128x128x4096, .i1⟩
  | 51 => ⟨S_, .f32⟩
  | 52 => ⟨S_, .f32⟩
  | 53 => ⟨S2x128x128x4096, .f32⟩
  | 54 => ⟨S2x128x128x4096, .f32⟩
  | 55 => ⟨S2x128x128x4096, .f32⟩
  | 56 => ⟨S2x128x128x4096, .f32⟩
  | 57 => ⟨S2x128x128x8, .f32⟩
  | 58 => ⟨S2x128x128x8, .i32⟩
  | 59 => ⟨S_, .f32⟩
  | 60 => ⟨S2x128x128x8, .f32⟩
  | 61 => ⟨S2x128x128x8, .i1⟩
  | 62 => ⟨S_, .i32⟩
  | 63 => ⟨S2x128x128x8, .i32⟩
  | 64 => ⟨S2x128x128x8, .i1⟩
  | 65 => ⟨S_, .i32⟩
  | 66 => ⟨S2x128x128x8, .i32⟩
  | 67 => ⟨S2x128x128x8, .i32⟩
  | 68 => ⟨S2x128x128x8, .i32⟩
  | 69 => ⟨S2x128x128x8x1, .i32⟩
  | 70 => ⟨S1, .i32⟩
  | 71 => ⟨S_, .i32⟩
  | 72 => ⟨S2x128x128x8x1, .i32⟩
  | 73 => ⟨S2x128x128x8x1, .i1⟩
  | 74 => ⟨S1x1x1x1x1, .i32⟩
  | 75 => ⟨S2x128x128x8x1, .i32⟩
  | 76 => ⟨S2x128x128x8x1, .i1⟩
  | 77 => ⟨S2x128x128x8x1, .i1⟩
  | 78 => ⟨S_, .i1⟩
  | 79 => ⟨S2x128x128x8, .i1⟩
  | 80 => ⟨S2x128x128x8, .f32⟩
  | 81 => ⟨S_, .f32⟩
  | 82 => ⟨S2x128x128x8, .f32⟩
  | 83 => ⟨S2x128x128x8, .f32⟩
  | 84 => ⟨S_, .i32⟩
  | 85 => ⟨S_, .i32⟩
  | 86 => ⟨S2x128x128x8, .i32⟩
  | 87 => ⟨S2x128x128x8, .i32⟩
  | 88 => ⟨S_, .f32⟩
  | 89 => ⟨S_, .f32⟩
  | 90 => ⟨S2x128x128x8, .f32⟩
  | 91 => ⟨S2x128x128x8, .f32⟩
  | 92 => ⟨S_, .f32⟩
  | 93 => ⟨S2x128x128x8, .f32⟩
  | 94 => ⟨S2x128x128x8, .f32⟩
  | 95 => ⟨S_, .f32⟩
  | 96 => ⟨S_, .f32⟩
  | 97 => ⟨S_, .f32⟩
  | 98 => ⟨S2x128x128x8, .f32⟩
  | 99 => ⟨S2x128x128x8, .f32⟩
  | 100 => ⟨S_, .f32⟩
  | 101 => ⟨S2x128x128x8, .f32⟩
  | 102 => ⟨S2x128x128x8, .f32⟩
  | 103 => ⟨S_, .f32⟩
  | 104 => ⟨S2x128x128x8, .f32⟩
  | 105 => ⟨S2x128x128x8, .f32⟩
  | 106 => ⟨S_, .f32⟩
  | 107 => ⟨S2x128x128x8, .f32⟩
  | 108 => ⟨S2x128x128x8, .f32⟩
  | 109 => ⟨S_, .i32⟩
  | 110 => ⟨S2x128x128x8, .i32⟩
  | 111 => ⟨S2x128x128x8, .i1⟩
  | 112 => ⟨S_, .f32⟩
  | 113 => ⟨S_, .f32⟩
  | 114 => ⟨S2x128x128x8, .f32⟩
  | 115 => ⟨S2x128x128x8, .f32⟩
  | 116 => ⟨S2x128x128x1, .f32⟩
  | 117 => ⟨S2x128x128, .f32⟩
  | 118 => ⟨S_, .f32⟩
  | 119 => ⟨S2x128x128, .f32⟩
  | 120 => ⟨S2x128x128x1, .f32⟩
  | 121 => ⟨S2x128x128, .f32⟩
  | 122 => ⟨S_, .f32⟩
  | 123 => ⟨S2x128x128, .f32⟩
  | 124 => ⟨S2x128x128, .f32⟩
  | 125 => ⟨S2x128x128, .f32⟩
  | 126 => ⟨S2x128x128x1, .f32⟩
  | 127 => ⟨S2x128x128, .f32⟩
  | _ => ⟨S2x4096x3, .f32⟩

abbrev hbmTy0_1 (i : Nat) : BufTy := match i % 128 with
  | 0 => ⟨S_, .f32⟩
  | 1 => ⟨S2x128x128, .f32⟩
  | 2 => ⟨S2x128x128, .f32⟩
  | 3 => ⟨S2x128x128, .f32⟩
  | 4 => ⟨S2x128x128x1, .f32⟩
  | 5 => ⟨S2x128x128, .f32⟩
  | 6 => ⟨S_, .f32⟩
  | 7 => ⟨S2x128x128, .f32⟩
  | 8 => ⟨S2x128x128, .f32⟩
  | 9 => ⟨S2x128x128, .f32⟩
  | 10 => ⟨S2x128x128x1, .f32⟩
  | 11 => ⟨S2x128x128, .f32⟩
  | 12 => ⟨S_, .f32⟩
  | 13 => ⟨S2x128x128, .f32⟩
  | 14 => ⟨S2x128x128, .f32⟩
  | 15 => ⟨S2x128x128, .f32⟩
  | 16 => ⟨S2x128x128x1, .f32⟩
  | 17 => ⟨S2x128x128, .f32⟩
  | 18 => ⟨S_, .f32⟩
  | 19 => ⟨S2x128x128, .f32⟩
  | 20 => ⟨S2x128x128, .f32⟩
  | 21 => ⟨S2x128x128, .f32⟩
  | 22 => ⟨S2x128x128x1, .f32⟩
  | 23 => ⟨S2x128x128, .f32⟩
  | 24 => ⟨S_, .f32⟩
  | 25 => ⟨S2x128x128, .f32⟩
  | 26 => ⟨S2x128x128, .f32⟩
  | 27 => ⟨S2x128x128, .f32⟩
  | 28 => ⟨S2x128x128x1, .f32⟩
  | 29 => ⟨S2x128x128, .f32⟩
  | 30 => ⟨S_, .f32⟩
  | 31 => ⟨S2x128x128, .f32⟩
  | 32 => ⟨S2x128x128, .f32⟩
  | 33 => ⟨S2x128x128, .f32⟩
  | 34 => ⟨S2x128x128x1, .f32⟩
  | 35 => ⟨S2x128x128, .f32⟩
  | 36 => ⟨S_, .f32⟩
  | 37 => ⟨S2x128x128, .f32⟩
  | 38 => ⟨S2x128x128, .f32⟩
  | 39 => ⟨S2x128x128, .f32⟩
  | 40 => ⟨S2x128x128x1, .f32⟩
  | 41 => ⟨S2x128x128x1, .f32⟩
  | 42 => ⟨S2x128x128x1, .f32⟩
  | 43 => ⟨S2x128x128x1, .f32⟩
  | 44 => ⟨S2x128x128x1, .f32⟩
  | 45 => ⟨S2x128x128x1, .f32⟩
  | 46 => ⟨S2x128x128x1, .f32⟩
  | 47 => ⟨S2x128x128x1, .f32⟩
  | 48 => ⟨S2x128x128x8, .f32⟩
  | 49 => ⟨S2x128x128x8, .f32⟩
  | 50 => ⟨S_, .i32⟩
  | 51 => ⟨S2x128x128x8, .i32⟩
  | 52 => ⟨S2x128x128x8, .i32⟩
  | 53 => ⟨S_, .i32⟩
  | 54 => ⟨S2x128x128x8, .i32⟩
  | 55 => ⟨S2x128x128x8, .i1⟩
  | 56 => ⟨S_, .i32⟩
  | 57 => ⟨S2x128x128x8, .i32⟩
  | 58 => ⟨S2x128x128x8, .i32⟩
  | 59 => ⟨S2x128x128x8, .i32⟩
  | 60 => ⟨S2x128x128x8x1, .i32⟩
  | 61 => ⟨S2x128x128x8x64, .f32⟩
  | 62 => ⟨S2x128x128x64, .f32⟩
  | 63 => ⟨S2x64x128x128, .f32⟩
  | _ => ⟨S2x4096x3, .f32⟩

abbrev hbmTy (i : Nat) : BufTy := match i / 128 with
  | 0 => hbmTy0_0 i
  | 1 => hbmTy0_1 i
  | _ => ⟨S2x4096x3, .f32⟩

abbrev bufTy : (tb : Table) → Fin (tcTables nBuf tb) → BufTy
  | .hbm, ⟨i, _⟩ => hbmTy i
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_4 : Ref sig .tc := ⟨.hbm, 43, rfl⟩
abbrev main_v36 : Ref sig .tc := ⟨.hbm, 44, rfl⟩
abbrev main_v37 : Ref sig .tc := ⟨.hbm, 45, rfl⟩
abbrev main_cst_5 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_6 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v42 : Ref sig .tc := ⟨.hbm, 55, rfl⟩
abbrev main_v43 : Ref sig .tc := ⟨.hbm, 56, rfl⟩
abbrev main_values : Ref sig .tc := ⟨.hbm, 57, rfl⟩
abbrev main_indices : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_cst : Ref sig .tc := ⟨.hbm, 81, rfl⟩
abbrev main_call1_v14 : Ref sig .tc := ⟨.hbm, 82, rfl⟩
abbrev main_v46 : Ref sig .tc := ⟨.hbm, 83, rfl⟩
abbrev main_c : Ref sig .tc := ⟨.hbm, 84, rfl⟩
abbrev main_call2_v0 : Ref sig .tc := ⟨.hbm, 85, rfl⟩
abbrev main_call2_v1 : Ref sig .tc := ⟨.hbm, 86, rfl⟩
abbrev main_v47 : Ref sig .tc := ⟨.hbm, 87, rfl⟩
abbrev main_cst_8 : Ref sig .tc := ⟨.hbm, 88, rfl⟩
abbrev main_call3_v0 : Ref sig .tc := ⟨.hbm, 89, rfl⟩
abbrev main_call3_v1 : Ref sig .tc := ⟨.hbm, 90, rfl⟩
abbrev main_v48 : Ref sig .tc := ⟨.hbm, 91, rfl⟩
abbrev main_cst_9 : Ref sig .tc := ⟨.hbm, 92, rfl⟩
abbrev main_v49 : Ref sig .tc := ⟨.hbm, 93, rfl⟩
abbrev main_v50 : Ref sig .tc := ⟨.hbm, 94, rfl⟩
abbrev main_cst_10 : Ref sig .tc := ⟨.hbm, 95, rfl⟩
abbrev main_cst_11 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_v51 : Ref sig .tc := ⟨.hbm, 102, rfl⟩
abbrev main_cst_12 : Ref sig .tc := ⟨.hbm, 103, rfl⟩
abbrev main_v52 : Ref sig .tc := ⟨.hbm, 104, rfl⟩
abbrev main_v53 : Ref sig .tc := ⟨.hbm, 105, rfl⟩
abbrev main_cst_13 : Ref sig .tc := ⟨.hbm, 106, rfl⟩
abbrev main_v54 : Ref sig .tc := ⟨.hbm, 107, rfl⟩
abbrev main_v55 : Ref sig .tc := ⟨.hbm, 108, rfl⟩
abbrev main_c_14 : Ref sig .tc := ⟨.hbm, 109, rfl⟩
abbrev main_v56 : Ref sig .tc := ⟨.hbm, 110, rfl⟩
abbrev main_v57 : Ref sig .tc := ⟨.hbm, 111, rfl⟩
abbrev main_cst_15 : Ref sig .tc := ⟨.hbm, 112, rfl⟩
abbrev main_call5_v0 : Ref sig .tc := ⟨.hbm, 113, rfl⟩
abbrev main_call5_v1 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_cst_16 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_cst_17 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_cst_18 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_cst_19 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_cst_20 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_cst_21 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_cst_22 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_cst_23 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_cst_24 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_c_25 : Ref sig .tc := ⟨.hbm, 178, rfl⟩
abbrev main_v112 : Ref sig .tc := ⟨.hbm, 179, rfl⟩
abbrev main_v113 : Ref sig .tc := ⟨.hbm, 180, rfl⟩
abbrev main_c_26 : Ref sig .tc := ⟨.hbm, 181, rfl⟩
abbrev main_v114 : Ref sig .tc := ⟨.hbm, 182, rfl⟩
abbrev main_v115 : Ref sig .tc := ⟨.hbm, 183, rfl⟩
abbrev main_c_27 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩

abbrev nD : Nat := 1
abbrev τ : Topo := Topo.v7x

variable {F : FTy → Type} [FloatOps F]
-- ==== Proof.StartsIdeal.lean ====
/- The row at which each grid point's window of sorted points begins, in the program `KernelIdeal`: the number of points below the
   band's lower edge, rounded down to a multiple of eight. It is a multiple of eight and at most 4096, whatever the points
   are, and so every block the body loads lies inside its array: the conditions the generated frame assumes hold. -/
module

public import proofs.«01_k».proof.Defs
public import proofs.«01_k».proof.Proof.Gen.KernelIdeal.Frame
public import Idealize.ShloMosaic.Lib.Pointwise
public import Idealize.ShloMosaic.Lib.IndicatorCount
public import Idealize.ShloMosaic.Lib.Routing.Words
public import Idealize.ShloMosaic.Lib.StableHlo.ReadAt

@[expose] public section

set_option maxRecDepth 16384

noncomputable section

namespace Cert.KernelIdeal.Starts

open Cert.KernelIdeal Cert.KernelIdeal.Gen
open Idealize.ShloMosaic Idealize.ShloMosaic.TcCoe

variable {F : FTy → Type} [FloatOps F] [Named F]

/-- The lower edge of band `t`'s strip of y values. -/
def lowEdge (t : Fin 32) : F .f32 :=
  FloatOps.subf (FloatOps.subf (FloatOps.ofBits .f32 1065353216#32) (FloatOps.hostDivf (FloatOps.addf (FloatOps.mulf (FloatOps.ofBits .f32 1073741824#32) (FloatOps.subf (FloatOps.addf (FloatOps.mulf (FloatOps.sitofp .f32 (BitVec.ofNat 32 t.val)) (FloatOps.ofBits .f32 1082130432#32)) (FloatOps.ofBits .f32 1082130432#32)) (FloatOps.ofBits .f32 1065353216#32))) (FloatOps.ofBits .f32 1065353216#32)) (FloatOps.ofBits .f32 1124073472#32))) (FloatOps.ofBits .f32 1019216409#32)

/-- How many entries of row `b` of `u` lie below the edge of band `t`. -/
def below (u : S2x4096.Idx → F .f32) (b : Fin 2) (t : Fin 32) : ℕ :=
  (Finset.univ.filter fun k : Fin 4096 => FloatOps.cmpf .olt (u (ix2 b k)) (lowEdge t) = 1#1).card

theorem below_le (u : S2x4096.Idx → F .f32) (b : Fin 2) (t : Fin 32) : below u b t ≤ 4096 := by
  unfold below
  exact (Finset.card_le_univ _).trans (by simp)

theorem count_at (W : Valuation τ sig (Elt F)) (u : S2x4096.Idx → F .f32) (hu : W (Proc.devRef .tc main_v22) = u)
    (b : Fin 2) (t : Fin 32) :
    StableHlo.after hostOps0_11 W (Proc.devRef .tc main_v101) (ix3 b t 0) = BitVec.ofNat 32 (below u b t) := by
  subst hu
  after_reads_at
  rw [IndicatorCount.fold_addi_setWidth_eq_card]
  rfl

theorem eight_at (W : Valuation τ sig (Elt F)) :
    StableHlo.after hostOps0_11 W (Proc.devRef .tc main_c_23) ix0 = 8#32 := by
  after_reads_at

theorem div_at (W : Valuation τ sig (Elt F)) (n : ℕ) (hn : n ≤ 4096) (b : Fin 2) (t : Fin 32)
    (hu : W (Proc.devRef .tc main_v101) (ix3 b t 0) = BitVec.ofNat 32 n) (hc : W (Proc.devRef .tc main_c_23) ix0 = 8#32) :
    StableHlo.after hostOps0_12 W (Proc.devRef .tc main_v102) (ix3 b t 0) = BitVec.ofNat 32 (n / 8) := by
  after_reads_at
  have hc' : (id (W (Proc.devRef .tc main_c_23)) : S_.Idx → BitVec 32) ix0 = BitVec.ofNat 32 8 := hc
  have hn' : n < 2 ^ 31 := by omega
  rw [hu, hc', Routing.remsi_word .host hn' (by decide) (by decide), Routing.divsi_word .host hn' (by decide) (by decide), Routing.msb_ofNat32 hn']
  rcases Nat.eq_zero_or_pos n with rfl | h
  · rfl
  · have e : IntOp.cmpi .ne (if false = true then (-1 : BitVec 32) else 1) (if 8#32 = 0 then 0 else if (8#32).msb = true then -1 else 1) = 0#1 := by decide
    rw [if_neg (Routing.ofNat32_ne_zero h (by omega)), e]
    simp [IntOp.andi, Scalar.select]

theorem start_at (W : Valuation τ sig (Elt F)) (n : ℕ) (b : Fin 2) (t : Fin 32)
    (hu : W (Proc.devRef .tc main_v102) (ix3 b t 0) = BitVec.ofNat 32 n) :
    StableHlo.after hostOps0_13 W (Proc.devRef .tc main_v111) (ix4 b t 0 0) = BitVec.ofNat 32 (n * 8) := by
  after_reads_at
  rw [hu]
  show BitVec.ofNat 32 n * BitVec.ofNat 32 8 + 0#32 * 4440#32 = _
  rw [BitVec.ofNat_mul]
  simp

variable (m : (ℓ : Loc nD τ sig) → Buf (Elt F) ℓ)

/-- The buffers before the stretch that lays the sorted points out. -/
def early (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10]) (fun b => m (c, b))

/-- The buffers after that stretch. -/
def laid (c : Dev nD) : Valuation τ sig (Elt F) := StableHlo.after hostOps0_11 (early m c)

theorem entry_split (c : Dev nD) : V0 m c = StableHlo.after hostOps0_13 (StableHlo.after hostOps0_12 (laid m c)) := by
  unfold laid early V0
  rw [← StableHlo.after_append, ← StableHlo.after_append, ← StableHlo.after_append]
  rfl

/-- The y values of the points in sorted order. -/
def sortedY (c : Dev nD) : S2x4096.Idx → F .f32 := early m c (Proc.devRef .tc main_v22)

theorem starts_at (c : Dev nD) (b : Fin 2) (t : Fin 32) :
    V m c main_v111 (ix4 b t 0 0) = BitVec.ofNat 32 (below (sortedY m c) b t / 8 * 8) := by
  show V0 m c (Proc.devRef .tc main_v111) (ix4 b t 0 0) = _
  rw [entry_split]
  exact start_at _ _ b t (div_at _ _ (below_le _ b t) b t (count_at _ _ rfl b t) (eight_at _))

/-- Each entry of the array of starts is a multiple of eight that is at most 4096. -/
theorem starts_word (c : Dev nD) (j : S2x32x1x1.Idx) : ∃ n : Fin 513, V m c main_v111 j = BitVec.ofNat 32 (n.val * 8) := by
  obtain ⟨b, t, rfl⟩ : ∃ (b : Fin 2) (t : Fin 32), j = ix4 b t 0 0 := by
    refine ⟨j 0, j 1, ?_⟩
    rw [eq_ix4 j]
    exact congrArg₂ (ix4 (j 0) (j 1)) (Subsingleton.elim (α := Fin 1) _ _) (Subsingleton.elim (α := Fin 1) _ _)
  exact ⟨⟨below (sortedY m c) b t / 8, by have := below_le (sortedY m c) b t; omega⟩, starts_at m c b t⟩

set_option maxRecDepth 100000 in
theorem inside (n : Fin 513) : k0_chk1 (BitVec.ofNat 32 (n.val * 8)) := by
  revert n; decide +kernel

/-- The conditions the frame assumes hold of every memory. -/
theorem hyps : Hyps m := by
  intro c t
  simp only [View.readAt_apply, Memref.IsWhole.read_unread]
  unfold iblk
  rw [View.read_apply, cast_eq]
  obtain ⟨n, hn⟩ := starts_word m c _
  erw [hn]
  exact inside n

end Cert.KernelIdeal.Starts
-- ==== Proof.Frames.lean ====
/- The claims that say nothing of values: each program runs to its end with its arguments unchanged and every counter at
   zero, and the one named constant is the number its word stands for. -/
module

public import proofs.«01_k».proof.Defs
public import proofs.«01_k».proof.Proof.Starts
public import proofs.«01_k».proof.Proof.StartsIdeal
public import proofs.«01_k».proof.Proof.Gen.ReferenceIdeal
public import proofs.«01_k».proof.Proof.Gen.Pre_crowd_fits
public import proofs.«01_k».proof.Proof.Gen.ReferenceIdeal.Run
public import Idealize.ShloMosaic.Lib.Quiescent

@[expose] public section

noncomputable section

namespace Cert.Proof.Frames

open Idealize.ShloMosaic Idealize.SL.Sem

theorem kernel : Cert.quiescent_Kernel := fun m ρ _ => Cert.Kernel.Gen.frame m ρ (Cert.Kernel.Starts.hyps m)

theorem kernelIdeal : Cert.quiescent_KernelIdeal := fun m ρ _ =>
  Cert.KernelIdeal.Gen.frame m ρ (Cert.KernelIdeal.Starts.hyps m)

theorem kernelIdealPre : Cert.quiescent_KernelIdeal_pre_crowd_fits := fun m ρ _ =>
  Cert.KernelIdeal.Gen.frame m ρ (Cert.KernelIdeal.Starts.hyps m)

theorem referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem referenceIdealPre : Cert.quiescent_ReferenceIdeal_pre_crowd_fits := fun m ρ _ => referenceIdeal m ρ trivial

/-- The constant named `inv_r2` reads 16384/9. -/
theorem preserves : Cert.preserves_Kernel_KernelIdeal :=
  IdealRules.named_const.statement Cert.KernelIdeal.κ "inv_r2" .f32 0x44E38E39#32 ((16384 / 9 : ℝ) : EReal) rfl

end Cert.Proof.Frames
-- ==== Proof.Terms.lean ====
module

public import proofs.«01_k».proof.Defs
public import Idealize.ShloMosaic.Lib.Pointwise

/-!
The quantities the kernel and the reference both speak of: the centre of a pixel row or column, the squared distance of
a point to a pixel, the soft transmittance of a point, and the order in which the points of one pixel are blended.
-/

@[expose] public section
noncomputable section
namespace Cert.Blend
open Idealize.ShloMosaic

/-- The normalised coordinate of the centre of the `n`-th pixel row or column, both axes pointing down. -/
def center (n : ℕ) : EReal :=
  1 - Ideal.div (Ideal.ofBits FTy.f32 0x40000000#32 * FloatOps.sitofp (F := Ideal) FTy.f32 (BitVec.ofNat 32 n) + 1)
    (Ideal.ofBits FTy.f32 0x43000000#32)

/-- The squared radius of a point, in normalised coordinates. -/
def radius2 : EReal := Ideal.ofBits FTy.f32 0x3A100000#32

/-- The least value a normalised squared distance is clipped to. -/
def least : EReal := Ideal.ofBits FTy.f32 0x3A83126F#32

/-- The squared distance of `(x, y)` to `(p, q)`. -/
def dist2 (x y p q : EReal) : EReal := (x - p) * (x - p) + (y - q) * (y - q)

/-- What the point at squared distance `d` lets through: the root of its clipped normalised squared distance. -/
def through (d : EReal) : EReal := Ideal.sqrt (max (d * ((16384 / 9 : ℝ) : EReal)) least)

open Classical in
/-- The blended sum as the kernel forms it over `n` rows: the weight of row `i` counts and multiplies, through a sum of
    logarithms, the near rows that come `earlier`. -/
def rowSum {n : ℕ} (near : Fin n → Prop) (earlier : Fin n → Fin n → Prop)
    (d f : Fin n → EReal) : EReal :=
  ∑ i, if near i ∧ (∑ j, if earlier j i then (if near j then 1 else 0) else 0 : EReal) < Ideal.ofBits FTy.f32 0x40F00000#32 then
    f i * ((1 - through (d i)) * Ideal.exp (∑ j, if near j then if earlier j i then
      Ideal.ofBits FTy.f32 0x3F000000#32 * Ideal.log (max (d j * ((16384 / 9 : ℝ) : EReal)) least) else 0 else 0)) else 0

/-! ## Flags -/

theorem sitofp_flag (p : Prop) [Decidable p] :
    FloatOps.sitofp (F := Ideal) FTy.f32 (BitVec.setWidth 32 (BitVec.ofBool (decide p))) = if p then (1 : EReal) else 0 := by
  by_cases h : p <;> simp [h, FloatOps.sitofp]

theorem flag_or (p q : Prop) [Decidable p] [Decidable q] :
    IntOp.ori (BitVec.ofBool (decide p)) (BitVec.ofBool (decide q)) = BitVec.ofBool (decide (p ∨ q)) := by
  by_cases p <;> by_cases q <;> simp [*, IntOp.ori]

theorem flag_and (p q : Prop) [Decidable p] [Decidable q] :
    IntOp.andi (BitVec.ofBool (decide p)) (BitVec.ofBool (decide q)) = BitVec.ofBool (decide (p ∧ q)) := by
  by_cases p <;> by_cases q <;> simp [*, IntOp.andi]

theorem select_flag {α : Type} (p : Prop) [Decidable p] (x y : α) :
    Scalar.select (BitVec.ofBool (decide p)) x y = if p then x else y := by
  by_cases h : p <;> simp [h, Scalar.select]

end Cert.Blend
-- ==== Proof.Rank.lean ====
module

public import proofs.«01_k».proof.Defs
public import proofs.«01_k».proof.Proof.Terms
public import Idealize.ShloMosaic.Lib.SortFacts
public import Mathlib.Data.Fintype.BigOperators

/-!
The blended sum of a pixel over its near points in depth order, and three ways to reach it: reindexing along a map that
matches the near entries, the kernel's sums of flags and of logarithms, and the first eight positions of a stable sort.
-/

@[expose] public section
noncomputable section
namespace Cert.Blend
open Idealize.ShloMosaic

/-! ## A stable sort by a key keeps the order among equal keys -/

section StableOrder
variable {α : Type} [LinearOrder α] {n : ℕ} (key : Fin n → α)

/-- Entry `a` comes before entry `b`: a smaller key, or an equal key at a smaller position. -/
def Before (a b : Fin n) : Prop := key a < key b ∨ (key a = key b ∧ a < b)

theorem Before.trans {a b c : Fin n} (h : Before key a b) (h' : Before key b c) : Before key a c := by
  rcases h with h | ⟨h, p⟩ <;> rcases h' with h' | ⟨h', p'⟩
  · exact Or.inl (h.trans h')
  · exact Or.inl (h'.symm ▸ h)
  · exact Or.inl (h.symm ▸ h')
  · exact Or.inr ⟨h.trans h', p.trans p'⟩

theorem Before.irrefl (a : Fin n) : ¬Before key a a := by
  rintro (h | ⟨-, h⟩)
  · exact lt_irrefl _ h
  · exact lt_irrefl _ h

theorem insertBefore_ordered (a : Fin n) (l : List (Fin n)) (ha : ∀ b ∈ l, a < b) (hl : l.Pairwise (Before key)) :
    (insertBefore (fun x y => decide (key x < key y)) a l).Pairwise (Before key) := by
  induction l with
  | nil => exact List.pairwise_singleton _ _
  | cons b l ih =>
    obtain ⟨hb, hl'⟩ := List.pairwise_cons.mp hl
    unfold insertBefore
    split
    · rename_i h
      have h' : key b < key a := by simpa using h
      refine List.pairwise_cons.mpr ⟨fun c hc => ?_, ih (fun c hc => ha c (List.mem_cons_of_mem _ hc)) hl'⟩
      rcases List.mem_cons.mp ((perm_insertBefore _ a l).mem_iff.mp hc) with rfl | hc'
      · exact Or.inl h'
      · exact hb c hc'
    · rename_i h
      have h' : key a ≤ key b := by simpa using h
      have hab : Before key a b := by
        rcases lt_or_eq_of_le h' with h' | h'
        · exact Or.inl h'
        · exact Or.inr ⟨h', ha b List.mem_cons_self⟩
      refine List.pairwise_cons.mpr ⟨fun c hc => ?_, hl⟩
      rcases List.mem_cons.mp hc with rfl | hc'
      · exact hab
      · exact hab.trans key (hb c hc')

theorem stableSort_ordered (l : List (Fin n)) (hl : l.Pairwise (· < ·)) :
    (stableSort (fun x y => decide (key x < key y)) l).Pairwise (Before key) := by
  induction l with
  | nil => exact List.Pairwise.nil
  | cons a l ih =>
    obtain ⟨ha, hl'⟩ := List.pairwise_cons.mp hl
    unfold stableSort
    exact insertBefore_ordered key a _ (fun b hb => ha b ((perm_stableSort _ l).mem_iff.mp hb)) (ih hl')

/-- The positions a stable sort by `key` leaves are in the order `Before`. -/
theorem sortedFrom_before (B : Fin n → Fin n → Bool) (hB : ∀ a b, B a b = decide (key a < key b)) {i j : Fin n} (hij : i < j) :
    Before key (sortedFrom B i) (sortedFrom B j) := by
  obtain rfl : B = fun a b => decide (key a < key b) := funext fun a => funext fun b => hB a b
  have h := stableSort_ordered key (List.finRange n) (List.pairwise_lt_finRange n)
  exact List.pairwise_iff_get.mp h (i.cast (length_sortPositions n _).symm) (j.cast (length_sortPositions n _).symm) hij

/-- The key along the sort never falls. -/
theorem sortedFrom_monotone (B : Fin n → Fin n → Bool) (hB : ∀ a b, B a b = decide (key a < key b)) :
    Monotone fun k => key (sortedFrom B k) := by
  intro i j hij
  rcases lt_or_eq_of_le hij with h | rfl
  · rcases sortedFrom_before key B hB h with h | ⟨h, -⟩
    · exact h.le
    · exact h.le
  · exact le_rfl

theorem sortedFrom_before_iff (B : Fin n → Fin n → Bool) (hB : ∀ a b, B a b = decide (key a < key b)) {i j : Fin n} :
    Before key (sortedFrom B i) (sortedFrom B j) ↔ i < j := by
  refine ⟨fun h => ?_, sortedFrom_before key B hB⟩
  by_contra hn
  rcases lt_or_eq_of_le (not_lt.mp hn) with h' | rfl
  · exact Before.irrefl key _ (h.trans key (sortedFrom_before key B hB h'))
  · exact Before.irrefl key _ h

/-- A stable sort of the rows of a table carries its second operand along. -/
theorem sort2_at {A n : ℕ} {β γ : Type} (cmp : β × γ → β × γ → BitVec 1) (x : (⟨2, ![A, n]⟩ : Shape).Idx → β)
    (y : (⟨2, ![A, n]⟩ : Shape).Idx → γ) (a : Fin A) (B : Fin n → Fin n → Bool)
    (h : ∀ k k', (cmp (x (ix2 a k), y (ix2 a k)) (x (ix2 a k'), y (ix2 a k')) == 1#1) = B k k') (k : Fin n) :
    (Host.sort2 ⟨2, ![A, n]⟩ 1 cmp x y).2 (ix2 a k) = y (ix2 a (sortedFrom B k)) := by
  have hal : ∀ i : Fin n, (ix2 a k : (⟨2, ![A, n]⟩ : Shape).Idx).along 1 i = ix2 a i := by
    intro i
    funext q
    fin_cases q <;> rfl
  obtain rfl : (fun k k' => cmp (x (ix2 a k), y (ix2 a k)) (x (ix2 a k'), y (ix2 a k')) == 1#1) = B :=
    funext fun k => funext fun k' => h k k'
  unfold Host.sort2
  rw [dif_pos (show 1 < (⟨2, ![A, n]⟩ : Shape).rank from Nat.one_lt_two)]
  show y ((ix2 a k : (⟨2, ![A, n]⟩ : Shape).Idx).along 1 (sortedFrom (fun k₁ k₂ : Fin n =>
    cmp (x ((ix2 a k : (⟨2, ![A, n]⟩ : Shape).Idx).along 1 k₁), y ((ix2 a k : (⟨2, ![A, n]⟩ : Shape).Idx).along 1 k₁))
      (x ((ix2 a k : (⟨2, ![A, n]⟩ : Shape).Idx).along 1 k₂), y ((ix2 a k : (⟨2, ![A, n]⟩ : Shape).Idx).along 1 k₂)) == 1#1) k)) = _
  simp only [hal]
  exact congrArg y (hal _)

/-- The greatest entries along the last axis and their positions: the sort's first entries. -/
theorem topK_at {A C D n l : ℕ} {β : Type} (gt : β → β → BitVec 1) (x : (⟨4, ![A, C, D, n]⟩ : Shape).Idx → β)
    (hs : (⟨4, ![A, C, D, n]⟩ : Shape).Slices (fun _ => 0) ⟨4, ![A, C, D, l]⟩) (a : Fin A) (c : Fin C) (d : Fin D)
    (B : Fin n → Fin n → Bool) (h : ∀ k k', (gt (x (ix4 a c d k)) (x (ix4 a c d k')) == 1#1) = B k k') (hl : l ≤ n) (k : Fin l) :
    (Host.topK ⟨4, ![A, C, D, l]⟩ 3 gt x hs).1 (ix4 a c d k) = x (ix4 a c d (sortedFrom B (k.castLE hl)))
      ∧ (Host.topK ⟨4, ![A, C, D, l]⟩ 3 gt x hs).2 (ix4 a c d k) = BitVec.ofNat 32 (sortedFrom B (k.castLE hl)).val := by
  have hal : ∀ k i : Fin n, (ix4 a c d k : (⟨4, ![A, C, D, n]⟩ : Shape).Idx).along 3 i = ix4 a c d i := by
    intro k i
    funext q
    fin_cases q <;> rfl
  obtain rfl : (fun k k' => gt (x (ix4 a c d k)) (x (ix4 a c d k')) == 1#1) = B :=
    funext fun k => funext fun k' => h k k'
  have hsl : ∀ {δ : Type} (y : (⟨4, ![A, C, D, n]⟩ : Shape).Idx → δ),
      extractStridedSlice ⟨4, ![A, C, D, l]⟩ (fun _ => 0) y hs (ix4 a c d k) = y (ix4 a c d (k.castLE hl)) := by
    intro δ y
    unfold extractStridedSlice
    refine congrArg y ?_
    funext q
    fin_cases q <;> exact Fin.ext (Nat.zero_add _)
  unfold Host.topK Host.sort2
  simp only [dif_pos (show 3 < (⟨4, ![A, C, D, n]⟩ : Shape).rank from by show 3 < 4; omega)]
  rw [hsl, hsl]
  constructor
  · show x ((ix4 a c d (k.castLE hl) : (⟨4, ![A, C, D, n]⟩ : Shape).Idx).along 3 (sortedFrom (fun k₁ k₂ : Fin n =>
      gt (x ((ix4 a c d (k.castLE hl) : (⟨4, ![A, C, D, n]⟩ : Shape).Idx).along 3 k₁))
        (x ((ix4 a c d (k.castLE hl) : (⟨4, ![A, C, D, n]⟩ : Shape).Idx).along 3 k₂)) == 1#1) (k.castLE hl))) = _
    simp only [hal]
    exact congrArg x (hal _ _)
  · show BitVec.ofNat 32 (sortedFrom (fun k₁ k₂ : Fin n =>
      gt (x ((ix4 a c d (k.castLE hl) : (⟨4, ![A, C, D, n]⟩ : Shape).Idx).along 3 k₁))
        (x ((ix4 a c d (k.castLE hl) : (⟨4, ![A, C, D, n]⟩ : Shape).Idx).along 3 k₂)) == 1#1) (k.castLE hl)).val = _
    simp only [hal]

end StableOrder

/-! ## The blended sum -/

open Classical in
/-- The entries that are near and come before `i`. -/
def ahead {ι : Type} [Fintype ι] (near : ι → Prop) (before : ι → ι → Prop) (i : ι) : Finset ι :=
  Finset.univ.filter fun j => near j ∧ before j i

open Classical in
/-- The blended value: each near entry with fewer than eight near entries ahead of it contributes its feature `f`, weighted
    by what it stops and by what the entries ahead of it let through. -/
def blend {ι : Type} [Fintype ι] (near : ι → Prop) (before : ι → ι → Prop) (d f : ι → EReal) : EReal :=
  ∑ i, if near i ∧ (ahead near before i).card < 8 then f i * ((1 - through (d i)) * ∏ j ∈ ahead near before i, through (d j))
    else 0

/-- The blended value does not change along a map that matches the near entries, their order, distances and features. -/
theorem blend_reindex {ι κ : Type} [Fintype ι] [Fintype κ] (near : ι → Prop) (before : ι → ι → Prop) (d f : ι → EReal)
    (near' : κ → Prop) (before' : κ → κ → Prop) (d' f' : κ → EReal) (p : ι → κ)
    (hinj : ∀ i j, near i → near j → p i = p j → i = j) (hnear : ∀ i, near i → near' (p i))
    (hsurj : ∀ k, near' k → ∃ i, near i ∧ p i = k)
    (hbefore : ∀ i j, near i → near j → (before j i ↔ before' (p j) (p i)))
    (hd : ∀ i, near i → d i = d' (p i)) (hf : ∀ i, near i → f i = f' (p i)) :
    blend near before d f = blend near' before' d' f' := by
  classical
  have hcard : ∀ i, near i → (ahead near before i).card = (ahead near' before' (p i)).card := by
    intro i hi
    refine Finset.card_bij (fun j _ => p j) ?_ ?_ ?_
    · intro j hj
      obtain ⟨hj, hb⟩ := (Finset.mem_filter.mp hj).2
      exact Finset.mem_filter.mpr ⟨Finset.mem_univ _, hnear j hj, (hbefore i j hi hj).mp hb⟩
    · intro j hj k hk e
      exact hinj j k (Finset.mem_filter.mp hj).2.1 (Finset.mem_filter.mp hk).2.1 e
    · intro k hk
      obtain ⟨hk, hb⟩ := (Finset.mem_filter.mp hk).2
      obtain ⟨j, hj, rfl⟩ := hsurj k hk
      exact ⟨j, Finset.mem_filter.mpr ⟨Finset.mem_univ _, hj, (hbefore i j hi hj).mpr hb⟩, rfl⟩
  have hprod : ∀ i, near i → ∏ j ∈ ahead near before i, through (d j) = ∏ j ∈ ahead near' before' (p i), through (d' j) := by
    intro i hi
    refine Finset.prod_bij (fun j _ => p j) ?_ ?_ ?_ ?_
    · intro j hj
      obtain ⟨hj, hb⟩ := (Finset.mem_filter.mp hj).2
      exact Finset.mem_filter.mpr ⟨Finset.mem_univ _, hnear j hj, (hbefore i j hi hj).mp hb⟩
    · intro j hj k hk e
      exact hinj j k (Finset.mem_filter.mp hj).2.1 (Finset.mem_filter.mp hk).2.1 e
    · intro k hk
      obtain ⟨hk, hb⟩ := (Finset.mem_filter.mp hk).2
      obtain ⟨j, hj, rfl⟩ := hsurj k hk
      exact ⟨j, Finset.mem_filter.mpr ⟨Finset.mem_univ _, hj, (hbefore i j hi hj).mpr hb⟩, rfl⟩
    · intro j hj
      rw [hd j (Finset.mem_filter.mp hj).2.1]
  unfold blend
  rw [← Finset.sum_filter, ← Finset.sum_filter]
  refine Finset.sum_bij (fun i _ => p i) ?_ ?_ ?_ ?_
  · intro i hi
    obtain ⟨hi, hc⟩ := (Finset.mem_filter.mp hi).2
    exact Finset.mem_filter.mpr ⟨Finset.mem_univ _, hnear i hi, hcard i hi ▸ hc⟩
  · intro i hi j hj e
    exact hinj i j (Finset.mem_filter.mp hi).2.1 (Finset.mem_filter.mp hj).2.1 e
  · intro k hk
    obtain ⟨hk, hc⟩ := (Finset.mem_filter.mp hk).2
    obtain ⟨i, hi, rfl⟩ := hsurj k hk
    exact ⟨i, Finset.mem_filter.mpr ⟨Finset.mem_univ _, hi, (hcard i hi).symm ▸ hc⟩, rfl⟩
  · intro i hi
    have hi' := (Finset.mem_filter.mp hi).2.1
    rw [hf i hi', hd i hi', hprod i hi']

/-! ## The literals, as reals -/

theorem radius2_eq : radius2 = ((9 / 16384 : ℝ) : EReal) := by
  unfold radius2
  simp [Ideal.ofBits, Ideal.ieee, -EReal.coe_mul]; norm_num

theorem half_eq : Ideal.ofBits FTy.f32 0x3F000000#32 = ((1 / 2 : ℝ) : EReal) := by
  simp [Ideal.ofBits, Ideal.ieee, -EReal.coe_mul]; norm_num

theorem limit_eq : Ideal.ofBits FTy.f32 0x40F00000#32 = ((15 / 2 : ℝ) : EReal) := by
  simp [Ideal.ofBits, Ideal.ieee, -EReal.coe_mul]; norm_num

/-- The least clipped value is a real between zero and one. -/
theorem least_eq : ∃ e : ℝ, least = (e : EReal) ∧ 0 < e ∧ e ≤ 1 := by
  refine ⟨_, by unfold least; simp [Ideal.ofBits, Ideal.ieee, -EReal.coe_mul]; rfl, ?_, ?_⟩ <;> norm_num

/-- The centre of a pixel row or column is a real. -/
theorem center_eq {n : ℕ} (hn : n < 128) : center n = ((1 - (2 * n + 1) / 128 : ℝ) : EReal) := by
  have h2 : Ideal.ofBits FTy.f32 0x40000000#32 = ((2 : ℝ) : EReal) := by
    simp [Ideal.ofBits, Ideal.ieee, -EReal.coe_mul]; norm_num
  have h128 : Ideal.ofBits FTy.f32 0x43000000#32 = ((128 : ℝ) : EReal) := by
    simp [Ideal.ofBits, Ideal.ieee, -EReal.coe_mul]; norm_num
  have hi : FloatOps.sitofp (F := Ideal) FTy.f32 (BitVec.ofNat 32 n) = ((n : ℝ) : EReal) := by
    show (((BitVec.ofNat 32 n).toInt : ℝ) : EReal) = _
    have : (BitVec.ofNat 32 n).toInt = n := by
      rw [BitVec.toInt_eq_toNat_cond, BitVec.toNat_ofNat]
      omega
    rw [this]
    norm_cast
  unfold center
  rw [h2, h128, hi]
  unfold Ideal.div
  rw [if_neg (by norm_num), ← EReal.coe_inv]
  norm_cast

/-- A square does not see the order of a difference from a real. -/
theorem square_sub_comm (x : EReal) (c : ℝ) : ((c : EReal) - x) * ((c : EReal) - x) = (x - c) * (x - c) := by
  induction x with
  | bot => simp
  | top => simp
  | coe r =>
    norm_cast
    ring

/-! ## What a near point lets through is a real -/

/-- A square is not negative. -/
theorem square_nonneg (x : EReal) : 0 ≤ x * x := by
  induction x with
  | bot => simp
  | top => simp
  | coe r => exact_mod_cast mul_self_nonneg r

theorem dist2_nonneg (x y p q : EReal) : 0 ≤ dist2 x y p q :=
  add_nonneg (square_nonneg _) (square_nonneg _)

/-- At a near distance the normalised squared distance is a real in `[0, 1]`; its clipped value is a positive real
    at most one, and the root of that is what the point lets through. -/
theorem near_real {d : EReal} (h0 : 0 ≤ d) (h : d ≤ radius2) :
    ∃ u : ℝ, 0 < u ∧ u ≤ 1 ∧ max (d * ((16384 / 9 : ℝ) : EReal)) least = (u : EReal) ∧ through d = (Real.sqrt u : EReal)
      ∧ Ideal.div d radius2 = d * ((16384 / 9 : ℝ) : EReal) ∧ d * ((16384 / 9 : ℝ) : EReal) ≤ 1 := by
  obtain ⟨e, he, e0, e1⟩ := least_eq
  rw [radius2_eq] at h
  have hb : d ≠ ⊥ := fun hd => by rw [hd] at h0; exact absurd h0 (by simp)
  have ht : d ≠ ⊤ := fun hd => by rw [hd] at h; exact absurd (top_le_iff.mp h) (EReal.coe_ne_top _)
  lift d to ℝ using ⟨ht, hb⟩
  have h0' : 0 ≤ d := EReal.coe_nonneg.mp h0
  have h' : d ≤ 9 / 16384 := EReal.coe_le_coe_iff.mp h
  have hm : max ((d : EReal) * ((16384 / 9 : ℝ) : EReal)) least = ((max (d * (16384 / 9)) e : ℝ) : EReal) := by
    rw [he, ← EReal.coe_mul]
    exact (EReal.coe_strictMono.monotone.map_max).symm
  have hu0 : 0 < max (d * (16384 / 9)) e := lt_max_of_lt_right e0
  have hle : d * (16384 / 9) ≤ 1 := by linarith
  refine ⟨max (d * (16384 / 9)) e, hu0, max_le hle e1, hm, ?_, ?_, ?_⟩
  · unfold through
    rw [hm]
    exact if_neg (not_lt.mpr hu0.le)
  · rw [radius2_eq]
    unfold Ideal.div
    rw [if_neg (by norm_num), ← EReal.coe_inv]
    norm_num
  · rw [← EReal.coe_mul]
    exact_mod_cast hle

/-! ## Sums and products of reals -/

theorem coe_sum {ι : Type} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

theorem coe_prod {ι : Type} (s : Finset ι) (g : ι → ℝ) : ∏ i ∈ s, (g i : EReal) = ((∏ i ∈ s, g i : ℝ) : EReal) := by
  classical
  induction s using Finset.induction_on with
  | empty => simp
  | insert a s ha ih => rw [Finset.prod_insert ha, Finset.prod_insert ha, ih, EReal.coe_mul]

/-- The kernel's value is the blended sum: its sum of flags counts the entries ahead, and its exponential of half the
    logarithms is the product of the roots. -/
theorem rowSum_eq_blend {n : ℕ} (near : Fin n → Prop) (earlier : Fin n → Fin n → Prop) (d f : Fin n → EReal)
    (h : ∀ i, near i → 0 ≤ d i ∧ d i ≤ radius2) : rowSum near earlier d f = blend near earlier d f := by
  classical
  have hc : ∀ i, (∑ j, if earlier j i then (if near j then 1 else 0) else 0 : EReal)
      = (((ahead near earlier i).card : ℝ) : EReal) := by
    intro i
    have e : ((ahead near earlier i).card : ℝ) = ∑ j ∈ ahead near earlier i, (1 : ℝ) := by simp
    rw [e, ← coe_sum, ahead, Finset.sum_filter]
    refine Finset.sum_congr rfl fun j _ => ?_
    by_cases h1 : earlier j i <;> by_cases h2 : near j <;> simp [h1, h2]
  have hl : ∀ i, (((ahead near earlier i).card : ℝ) : EReal) < Ideal.ofBits FTy.f32 0x40F00000#32
      ↔ (ahead near earlier i).card < 8 := by
    intro i
    rw [limit_eq, EReal.coe_lt_coe_iff]
    constructor
    · intro hlt
      by_contra hn
      have : (8 : ℝ) ≤ (ahead near earlier i).card := by exact_mod_cast not_lt.mp hn
      linarith
    · intro hlt
      have : ((ahead near earlier i).card : ℝ) ≤ 7 := by exact_mod_cast Nat.le_of_lt_succ hlt
      linarith
  have hp : ∀ i, Ideal.exp (∑ j, if near j then if earlier j i then Ideal.ofBits FTy.f32 0x3F000000#32
      * Ideal.log (max (d j * ((16384 / 9 : ℝ) : EReal)) least) else 0 else 0)
      = ∏ j ∈ ahead near earlier i, through (d j) := by
    intro i
    have hr : ∀ j, ∃ u : ℝ, near j → 0 < u ∧ max (d j * ((16384 / 9 : ℝ) : EReal)) least = (u : EReal)
        ∧ through (d j) = (Real.sqrt u : EReal) := by
      intro j
      by_cases hj : near j
      · obtain ⟨u, u0, -, e, e', -⟩ := near_real (h j hj).1 (h j hj).2
        exact ⟨u, fun _ => ⟨u0, e, e'⟩⟩
      · exact ⟨0, fun hj' => absurd hj' hj⟩
    choose u hu using hr
    have hs : (∑ j, if near j then if earlier j i then Ideal.ofBits FTy.f32 0x3F000000#32
        * Ideal.log (max (d j * ((16384 / 9 : ℝ) : EReal)) least) else 0 else 0)
        = ((∑ j ∈ ahead near earlier i, 1 / 2 * Real.log (u j) : ℝ) : EReal) := by
      rw [← coe_sum, ahead, Finset.sum_filter]
      refine Finset.sum_congr rfl fun j _ => ?_
      by_cases h2 : near j
      · by_cases h1 : earlier j i
        · obtain ⟨u0, e, -⟩ := hu j h2
          rw [if_pos h2, if_pos h1, if_pos ⟨h2, h1⟩, e, half_eq, EReal.coe_mul]
          congr 1
          exact if_neg (not_le.mpr u0)
        · simp [h1, h2]
      · simp [h2]
    have hq : ∏ j ∈ ahead near earlier i, through (d j) = ((∏ j ∈ ahead near earlier i, Real.sqrt (u j) : ℝ) : EReal) := by
      rw [← coe_prod]
      exact Finset.prod_congr rfl fun j hj => (hu j (Finset.mem_filter.mp hj).2.1).2.2
    rw [hs, hq]
    refine congrArg Real.toEReal ((Real.exp_sum _ _).trans (Finset.prod_congr rfl fun j hj => ?_))
    have u0 := (hu j (Finset.mem_filter.mp hj).2.1).1
    rw [Real.sqrt_eq_rpow, Real.rpow_def_of_pos u0, mul_comm]
  unfold rowSum blend
  refine Finset.sum_congr rfl fun i _ => ?_
  rw [hc i, hp i]
  simp only [hl i]

/-! ## The first eight of a sort -/

/-- The blended sum over the first eight positions of an order in which every near entry comes before every other. -/
theorem firstEight_eq_blend {α : Type} [LinearOrder α] {n : ℕ} (h8 : 8 ≤ n) (near : Fin n → Prop) (key : Fin n → α)
    (d f : Fin n → EReal) (top : α)
    (hd : ∀ i, near i → 0 ≤ d i ∧ d i ≤ radius2) (hk : ∀ i, near i ↔ key i < top)
    (π : Fin n → Fin n) (hπ : Function.Bijective π) (hord : ∀ i j, Before key (π i) (π j) ↔ i < j)
    (a t g : Fin 8 → EReal)
    (ha : ∀ k, near (π (k.castLE h8)) → a k = 1 - through (d (π (k.castLE h8))))
    (ha' : ∀ k, ¬near (π (k.castLE h8)) → a k = 0)
    (hg : ∀ k, near (π (k.castLE h8)) → g k = f (π (k.castLE h8)))
    (ht : ∀ k, t k = ∏ j, if j < k then 1 - a j else 1) :
    ∑ k, g k * (a k * t k) = blend near (Before key) d f := by
  classical
  have hahead : ∀ i, near (π i) → ahead near (Before key) (π i) = (Finset.univ.filter (· < i)).image π := by
    intro i hi
    ext q
    obtain ⟨j, rfl⟩ := hπ.2 q
    simp only [ahead, Finset.mem_filter, Finset.mem_univ, true_and, hord, Finset.mem_image]
    constructor
    · exact fun h => ⟨j, h.2, rfl⟩
    · rintro ⟨j', hj', e⟩
      obtain rfl := hπ.1 e
      refine ⟨(hk _).mpr ?_, hj'⟩
      rcases (hord _ _).mpr hj' with h | ⟨h, -⟩
      · exact h.trans ((hk _).mp hi)
      · exact h ▸ (hk _).mp hi
  have hcard : ∀ i, near (π i) → (ahead near (Before key) (π i)).card = i.val := by
    intro i hi
    rw [hahead i hi, Finset.card_image_of_injective _ hπ.1]
    have : (Finset.univ.filter (· < i)) = Finset.Iio i := by ext; simp
    rw [this, Fin.card_Iio]
  have hnear : ∀ i j, near (π i) → j < i → near (π j) := by
    intro i j hi hj
    have : π j ∈ ahead near (Before key) (π i) := by
      rw [hahead i hi]
      exact Finset.mem_image.mpr ⟨j, Finset.mem_filter.mpr ⟨Finset.mem_univ _, hj⟩, rfl⟩
    exact (Finset.mem_filter.mp this).2.1
  have hone : ∀ i, near i → 1 - (1 - through (d i)) = through (d i) := by
    intro i hi
    obtain ⟨u, -, -, -, e, -⟩ := near_real (hd i hi).1 (hd i hi).2
    rw [e]
    exact_mod_cast (sub_sub_cancel (1 : ℝ) (Real.sqrt u))
  have hterm : ∀ k : Fin 8, g k * (a k * t k)
      = if near (π (k.castLE h8)) ∧ (ahead near (Before key) (π (k.castLE h8))).card < 8 then
          f (π (k.castLE h8)) * ((1 - through (d (π (k.castLE h8))))
            * ∏ j ∈ ahead near (Before key) (π (k.castLE h8)), through (d j)) else 0 := by
    intro k
    by_cases hn : near (π (k.castLE h8))
    · have hk8 : (ahead near (Before key) (π (k.castLE h8))).card < 8 := by
        rw [hcard _ hn]; exact k.isLt
      rw [if_pos ⟨hn, hk8⟩, ha k hn, hg k hn, ht k, hahead _ hn, Finset.prod_image fun _ _ _ _ e => hπ.1 e]
      congr 2
      rw [← Finset.prod_filter]
      refine Finset.prod_bij (fun j _ => j.castLE h8) ?_ ?_ ?_ ?_
      · intro j hj
        exact Finset.mem_filter.mpr ⟨Finset.mem_univ _, (Finset.mem_filter.mp hj).2⟩
      · intro j _ j' _ e
        exact Fin.castLE_injective h8 e
      · intro j hj
        have hj' : j < k.castLE h8 := (Finset.mem_filter.mp hj).2
        exact ⟨⟨j.val, lt_trans (Fin.lt_def.mp hj') k.isLt⟩, Finset.mem_filter.mpr ⟨Finset.mem_univ _, hj'⟩, rfl⟩
      · intro j hj
        have hj' : j < k := (Finset.mem_filter.mp hj).2
        have hnj := hnear _ (j.castLE h8) hn hj'
        rw [ha j hnj, hone _ hnj]
    · rw [if_neg fun h => hn h.1, ha' k hn, zero_mul, mul_zero]
  rw [Finset.sum_congr rfl fun k _ => hterm k]
  unfold blend
  rw [← Equiv.sum_comp (Equiv.ofBijective π hπ)]
  simp only [Equiv.ofBijective_apply]
  refine (Finset.sum_map Finset.univ ⟨fun k : Fin 8 => k.castLE h8, Fin.castLE_injective h8⟩
    (fun i => if near (π i) ∧ (ahead near (Before key) (π i)).card < 8 then
          f (π i) * ((1 - through (d (π i))) * ∏ j ∈ ahead near (Before key) (π i), through (d j)) else 0)).symm.trans ?_
  refine Finset.sum_subset (Finset.subset_univ _) fun i _ hi => if_neg ?_
  rintro ⟨hn, hc⟩
  rw [hcard i hn] at hc
  exact hi (Finset.mem_map.mpr ⟨⟨i.val, hc⟩, Finset.mem_univ _, rfl⟩)

end Cert.Blend
-- ==== Proof.Ref.lean ====
module

public import proofs.«01_k».proof.Proof.Rank
public import proofs.«01_k».proof.Proof.Gen.ReferenceIdeal.Run
public import Idealize.ShloMosaic.Lib.Pointwise
public import Idealize.ShloMosaic.Lib.WordCmp
public import Idealize.ShloMosaic.Lib.Tactic.CleanTypes

/-!
The reference's value at an index: the blended sum over all points of the cloud.
-/

@[expose] public section
noncomputable section
namespace Cert.Blend
open Idealize.ShloMosaic

/-- A cloud of points: two batches of 4096 points with three coordinates. -/
abbrev Cloud : Shape := ⟨3, ![2, 4096, 3]⟩

/-- A point's position across: the cloud's first coordinate with its sign turned. -/
def xs (p : Cloud.Idx → EReal) (b : Fin 2) (i : Fin 4096) : EReal := p (ix3 b i 0) * Ideal.ofBits FTy.f32 0xBF800000#32
/-- A point's position down: the cloud's second coordinate with its sign turned. -/
def ys (p : Cloud.Idx → EReal) (b : Fin 2) (i : Fin 4096) : EReal := p (ix3 b i 1) * Ideal.ofBits FTy.f32 0xBF800000#32
/-- A point's depth. -/
def zs (p : Cloud.Idx → EReal) (b : Fin 2) (i : Fin 4096) : EReal := p (ix3 b i 2)

end Cert.Blend

namespace Cert.ReferenceIdeal.Ref
open Cert.ReferenceIdeal Cert.ReferenceIdeal.Gen Cert.ReferenceIdeal.Value Cert.Blend Idealize.ShloMosaic Idealize.ShloMosaic.TcCoe Idealize.ShloMosaic.StableHlo

/-- The squared distance of a point from a pixel, as the reference forms it. -/
def gap (p : Cloud.Idx → EReal) (b : Fin 2) (h w : Fin 128) (i : Fin 4096) : EReal :=
  (center w.val - xs p b i) * (center w.val - xs p b i) + (center h.val - ys p b i) * (center h.val - ys p b i)

open Classical in
/-- The depth of a point in front of the viewer within the radius, and `⊤` for every other point. -/
def key (p : Cloud.Idx → EReal) (b : Fin 2) (h w : Fin 128) (i : Fin 4096) : EReal :=
  if gap p b h w i ≤ radius2 ∧ 0 < zs p b i then zs p b i else ⊤

/-- A position of the cloud, as a word, is not negative. -/
theorem slt_zero (i : Fin 4096) : IntOp.cmpi .slt (BitVec.ofNat 32 i.val) 0#32 = BitVec.ofBool (decide False) := by
  word_cmp
  exact congrArg BitVec.ofBool (decide_eq_decide.mpr ⟨fun h => absurd h (Nat.not_lt_zero _), fun h => h.elim⟩)

theorem sge_zero (i : Fin 4096) : IntOp.cmpi .sge (BitVec.ofNat 32 i.val) 0#32 = BitVec.ofBool (decide True) := by
  word_cmp
  exact congrArg BitVec.ofBool (decide_eq_decide.mpr ⟨fun _ => trivial, fun _ => Nat.zero_le _⟩)

theorem sle_last (i : Fin 4096) : IntOp.cmpi .sle (BitVec.ofNat 32 i.val) 4095#32 = BitVec.ofBool (decide True) := by
  word_cmp
  exact congrArg BitVec.ofBool (decide_eq_decide.mpr ⟨fun _ => trivial, fun _ => Nat.le_of_lt_succ i.isLt⟩)

/-- The distance gather reads the point its index word names. -/
theorem gather_gap (x : S2x128x128x4096.Idx → EReal) (idx : IVec S2x128x128x8x1 32) (b : Fin 2) (h w : Fin 128) (k : Fin 8)
    (i : Fin 4096) (hi : idx (ix5 b h w k 0) = BitVec.ofNat 32 i.val) :
    Host.gather gather_S2x128x128x4096_S2x128x128x8x1_S2x128x128x8_n_3_012_012_3_4_1111 x idx (ix4 b h w k) = x (ix4 b h w i) := by
  refine congrArg x (funext fun a => Fin.ext ?_)
  have hn : (BitVec.ofNat 32 i.val).toInt.toNat = i.val := by
    rw [BitVec.toInt_eq_toNat_cond, BitVec.toNat_ofNat]
    have := i.isLt
    omega
  fin_cases a
  · show 0 + b.val + 0 = b.val
    omega
  · show 0 + h.val + 0 = h.val
    omega
  · show 0 + w.val + 0 = w.val
    omega
  · show min (idx (gather_S2x128x128x4096_S2x128x128x8x1_S2x128x128x8_n_3_012_012_3_4_1111.siIdx (ix4 b h w k) ⟨0, _⟩)).toInt.toNat
      4095 = i.val
    have e : gather_S2x128x128x4096_S2x128x128x8x1_S2x128x128x8_n_3_012_012_3_4_1111.siIdx (ix4 b h w k) ⟨0, by decide⟩
        = ix5 b h w k 0 := by
      funext q
      fin_cases q <;> rfl
    rw [e, hi, hn]
    have := i.isLt
    omega

theorem maxsi_zero (i : Fin 4096) : IntOp.maxsi (BitVec.ofNat 32 i.val) 0#32 = BitVec.ofNat 32 i.val := by
  have := i.isLt
  unfold IntOp.maxsi
  by_cases h : i.val = 0
  · rw [h]
    rfl
  · rw [if_pos]
    have e : (BitVec.ofNat 32 i.val).toInt = i.val := by
      rw [BitVec.toInt_eq_toNat_cond, BitVec.toNat_ofNat]
      omega
    simp only [BitVec.slt, e, BitVec.toInt_zero, decide_eq_true_eq]
    omega

/-- The feature gather reads the feature row of the point its index word names. -/
theorem gather_feat (x : S2x4096x64.Idx → EReal) (idx : IVec S2x128x128x8x1 32) (b : Fin 2) (h w : Fin 128) (k : Fin 8) (ch : Fin 64)
    (i : Fin 4096) (hi : idx (ix5 b h w k 0) = BitVec.ofNat 32 i.val) :
    Host.gather gather_S2x4096x64_S2x128x128x8x1_S2x128x128x8x64_4_1_0_0_1_4_1164 x idx (ix5 b h w k ch) = x (ix3 b i ch) := by
  refine congrArg x (funext fun a => Fin.ext ?_)
  have hn : (BitVec.ofNat 32 i.val).toInt.toNat = i.val := by
    rw [BitVec.toInt_eq_toNat_cond, BitVec.toNat_ofNat]
    have := i.isLt
    omega
  fin_cases a
  · show 0 + b.val + 0 = b.val
    omega
  · show min (idx (gather_S2x4096x64_S2x128x128x8x1_S2x128x128x8x64_4_1_0_0_1_4_1164.siIdx (ix5 b h w k ch) ⟨0, _⟩)).toInt.toNat
      4095 = i.val
    have e : gather_S2x4096x64_S2x128x128x8x1_S2x128x128x8x64_4_1_0_0_1_4_1164.siIdx (ix5 b h w k ch) ⟨0, by decide⟩
        = ix5 b h w k 0 := by
      funext q
      fin_cases q <;> rfl
    rw [e, hi, hn]
    have := i.isLt
    omega
  · show 0 + 0 + ch.val = ch.val
    omega

/-- The share of the light the `k`-th entry stops. -/
def stop (V0 : Valuation τ sig (Elt Ideal)) (b : Fin 2) (h w : Fin 128) (k : Fin 8) : EReal := res_main_v58 V0 (ix4 b h w k)

/-- The light left at a pixel. -/
def left (u : S2x128x128.Idx → EReal) (b : Fin 2) (h w : Fin 128) : EReal := u (ix3 b h w)

section At
variable (V0 : Valuation τ sig (Elt Ideal)) (p : Cloud.Idx → EReal) (hp : V0 (Proc.devRef .tc main_arg0) = p)
include hp

theorem v2_at (b : Fin 2) (i : Fin 4096) : res_main_v2 V0 (ix3 b i 0) = xs p b i ∧ res_main_v2 V0 (ix3 b i 1) = ys p b i
    ∧ res_main_v2 V0 (ix3 b i 2) = zs p b i := by
  subst hp
  refine ⟨?_, ?_, ?_⟩
  · unfold res_main_v2
    clean_types
    pointwise [xs, ys, zs]
    rfl
  · unfold res_main_v2
    clean_types
    pointwise [xs, ys, zs]
    rfl
  · unfold res_main_v2
    clean_types
    pointwise [xs, ys, zs]
    have e : Ideal.ofBits FTy.f32 (lit0 (S3.rowMajor (ix1 2))) = 1 := Ideal.ofBits_one_f32
    rw [e]
    exact mul_one _

omit hp in
theorem v17_at (n : Fin 128) : res_main_v17 V0 (ix1 n) = center n.val := by
  unfold res_main_v17
  clean_types
  pointwise [center]

theorem v22_at (b : Fin 2) (w : Fin 128) (i : Fin 4096) : res_main_v22 V0 (ix3 b w i) = center w.val - xs p b i := by
  rw [← v17_at V0 w, ← (v2_at V0 p hp b i).1]
  unfold res_main_v22
  clean_types
  pointwise []

theorem v28_at (b : Fin 2) (w : Fin 128) (i : Fin 4096) : res_main_v28 V0 (ix3 b w i) = center w.val - ys p b i := by
  rw [← v17_at V0 w, ← (v2_at V0 p hp b i).2.1]
  unfold res_main_v28
  clean_types
  pointwise []

theorem v35_at (b : Fin 2) (i : Fin 4096) : res_main_v35 V0 (ix4 b 0 0 i) = zs p b i := by
  rw [← (v2_at V0 p hp b i).2.2]
  unfold res_main_v35
  clean_types
  pointwise []

theorem v34_at (b : Fin 2) (h w : Fin 128) (i : Fin 4096) : res_main_v34 V0 (ix4 b h w i) = gap p b h w i := by
  unfold gap
  rw [← v22_at V0 p hp b w i, ← v28_at V0 p hp b h i]
  unfold res_main_v34
  clean_types
  pointwise []

theorem v43_at (b : Fin 2) (h w : Fin 128) (i : Fin 4096) : res_main_v43 V0 (ix4 b h w i) = -key p b h w i := by
  unfold key
  rw [← v34_at V0 p hp b h w i, ← v35_at V0 p hp b i]
  unfold res_main_v43
  clean_types
  pointwise []
  rw [flag_and, select_flag]
  have e : (id (constant (F := Ideal) S_ FTy.f32 0x7F800000#32) ix0) = (⊤ : EReal) := by simp [constant, Ideal.ofBits, Ideal.ieee]
  rw [e]
  congr!

/-- The position the depth sort of pixel `(h, w)` puts at `k`. -/
def order (p : Cloud.Idx → EReal) (b : Fin 2) (h w : Fin 128) : Fin 4096 → Fin 4096 :=
  sortedFrom fun k k' => decide (key p b h w k < key p b h w k')

/-- The `k`-th of the first eight positions. -/
abbrev pick (p : Cloud.Idx → EReal) (b : Fin 2) (h w : Fin 128) (k : Fin 8) : Fin 4096 :=
  order p b h w (k.castLE (by decide))

theorem gt_at (b : Fin 2) (h w : Fin 128) (k k' : Fin 4096) :
    (FloatOps.cmpfTotal (F := Ideal) (φ := .f32) .gt (res_main_v43 V0 (ix4 b h w k)) (res_main_v43 V0 (ix4 b h w k')) == 1#1)
      = decide (key p b h w k < key p b h w k') := by
  rw [v43_at V0 p hp, v43_at V0 p hp]
  show (BitVec.ofBool (decide (-key p b h w k' < -key p b h w k)) == 1#1) = _
  simp only [EReal.neg_lt_neg_iff]
  by_cases hk : key p b h w k < key p b h w k' <;> simp [hk]

theorem top_at (b : Fin 2) (h w : Fin 128) (k : Fin 8) :
    (Host.topK S2x128x128x8 3 (FloatOps.cmpfTotal (F := Ideal) (φ := .f32) .gt) (res_main_v43 V0) sliceFits_S2x128x128x4096_S2x128x128x8).1 (ix4 b h w k)
        = -key p b h w (pick p b h w k)
      ∧ (Host.topK S2x128x128x8 3 (FloatOps.cmpfTotal (F := Ideal) (φ := .f32) .gt) (res_main_v43 V0) sliceFits_S2x128x128x4096_S2x128x128x8).2 (ix4 b h w k)
        = BitVec.ofNat 32 (pick p b h w k).val := by
  have h0 := topK_at (FloatOps.cmpfTotal (F := Ideal) (φ := .f32) .gt) (res_main_v43 V0) sliceFits_S2x128x128x4096_S2x128x128x8
    b h w _ (gt_at V0 p hp b h w) (by decide) k
  exact ⟨h0.1.trans (v43_at V0 p hp b h w _), h0.2⟩

theorem indices_at (b : Fin 2) (h w : Fin 128) (k : Fin 8) :
    res_main_indices V0 (ix4 b h w k) = BitVec.ofNat 32 (pick p b h w k).val := (top_at V0 p hp b h w k).2

theorem v45_at (b : Fin 2) (h w : Fin 128) (k : Fin 8) :
    res_main_v45 V0 (ix4 b h w k) = BitVec.ofBool (decide (key p b h w (pick p b h w k) < ⊤)) := by
  have e := (top_at V0 p hp b h w k).1
  unfold res_main_v45
  clean_types
  pointwise []
  have hb : Ideal.ofBits FTy.f32 0xFF800000#32 = ⊥ := by simp [Ideal.ofBits, Ideal.ieee]
  rw [e, hb]
  refine congrArg BitVec.ofBool (decide_eq_decide.mpr ?_)
  rw [← EReal.neg_top]
  exact EReal.neg_lt_neg_iff

theorem call1_v5_at (b : Fin 2) (h w : Fin 128) (k : Fin 8) :
    res_main_call1_v5 V0 (ix5 b h w k 0) = BitVec.ofNat 32 (pick p b h w k).val := by
  have e := indices_at V0 p hp b h w k
  unfold res_main_call1_v5
  clean_types
  pointwise [e]
  rw [slt_zero, select_flag, if_neg not_false]

theorem v47_at (b : Fin 2) (h w : Fin 128) (k : Fin 8) :
    res_main_v47 V0 (ix4 b h w k) = if key p b h w (pick p b h w k) < ⊤ then BitVec.ofNat 32 (pick p b h w k).val else -1#32 := by
  have e := indices_at V0 p hp b h w k
  have e' := v45_at V0 p hp b h w k
  unfold res_main_v47
  clean_types
  pointwise [e, e']
  rfl

theorem v58_at (b : Fin 2) (h w : Fin 128) (k : Fin 8) :
    res_main_v58 V0 (ix4 b h w k) = if key p b h w (pick p b h w k) < ⊤ then
        1 - Ideal.pow (min 1 (max least (Ideal.div (gap p b h w (pick p b h w k)) radius2))) ((1 / 2 : ℝ) : EReal)
      else 0 := by
  have e' := v45_at V0 p hp b h w k
  have e'' := v47_at V0 p hp b h w k
  have hc := call1_v5_at V0 p hp b h w k
  have hg := (gather_gap (res_main_v34 V0) (res_main_call1_v5 V0) b h w k _ hc).trans (v34_at V0 p hp b h w _)
  have hh : (id (constant (F := Ideal) S_ FTy.f32 0x3F800000#32) ix0) = (1 : EReal) := Ideal.ofBits_one_f32
  have hz : (id (constant (F := Ideal) S_ FTy.f32 0x00000000#32) ix0) = (0 : EReal) := Ideal.ofBits_zero_f32
  have hl : (id (constant (F := Ideal) S_ FTy.f32 0x3A83126F#32) ix0) = least := rfl
  unfold res_main_v58
  clean_types
  pointwise [e', e'']
  rw [hg, hh, hz, hl, half_eq]
  by_cases hk : key p b h w (pick p b h w k) < ⊤
  · simp only [if_pos hk, sge_zero, select_flag]
    rw [if_pos trivial]
    have hm : (Finset.fold IntOp.andi (1#1) (fun x : Fin 1 =>
        IntOp.andi (IntOp.cmpi CmpIPredicate.sge (res_main_call1_v5 V0 (ix5 b h w k x)) 0#32)
          (IntOp.cmpi CmpIPredicate.sle (res_main_call1_v5 V0 (ix5 b h w k x)) 4095#32)) Finset.univ)
        = BitVec.ofBool (decide True) := by
      simp only [Finset.univ_unique, Finset.fold_singleton]
      rw [show (default : Fin 1) = 0 from rfl, hc, sge_zero, sle_last]
      rfl
    rw [hm, select_flag, if_pos trivial]
    rfl
  · simp only [if_neg hk]
    rfl

omit hp in
/-- What the entries before the `k`-th let through, as the reference's running product. -/
theorem run_at (b : Fin 2) (h w : Fin 128) :
    left (res_main_v61 V0) b h w = 1
      ∧ left (res_main_v66 V0) b h w = left (res_main_v61 V0) b h w * (1 - stop V0 b h w 0)
      ∧ left (res_main_v71 V0) b h w = left (res_main_v66 V0) b h w * (1 - stop V0 b h w 1)
      ∧ left (res_main_v76 V0) b h w = left (res_main_v71 V0) b h w * (1 - stop V0 b h w 2)
      ∧ left (res_main_v81 V0) b h w = left (res_main_v76 V0) b h w * (1 - stop V0 b h w 3)
      ∧ left (res_main_v86 V0) b h w = left (res_main_v81 V0) b h w * (1 - stop V0 b h w 4)
      ∧ left (res_main_v91 V0) b h w = left (res_main_v86 V0) b h w * (1 - stop V0 b h w 5)
      ∧ left (res_main_v96 V0) b h w = left (res_main_v91 V0) b h w * (1 - stop V0 b h w 6) := by
  refine ⟨?_, ?_, ?_, ?_, ?_, ?_, ?_, ?_⟩
  · unfold left res_main_v61
    clean_types
    pointwise []
  · rw [left, res_main_v66]
    clean_types
    pointwise []
    rfl
  · rw [left, res_main_v71]
    clean_types
    pointwise []
    rfl
  · rw [left, res_main_v76]
    clean_types
    pointwise []
    rfl
  · rw [left, res_main_v81]
    clean_types
    pointwise []
    rfl
  · rw [left, res_main_v86]
    clean_types
    pointwise []
    rfl
  · rw [left, res_main_v91]
    clean_types
    pointwise []
    rfl
  · rw [left, res_main_v96]
    clean_types
    pointwise []
    rfl

theorem v113_at (b : Fin 2) (h w : Fin 128) (k : Fin 8) :
    ∃ i : Fin 4096, res_main_v113 V0 (ix4 b h w k) = BitVec.ofNat 32 i.val
      ∧ (key p b h w (pick p b h w k) < ⊤ → i = pick p b h w k) := by
  have e := v47_at V0 p hp b h w k
  unfold res_main_v113
  clean_types
  pointwise []
  rw [e]
  by_cases hk : key p b h w (pick p b h w k) < ⊤
  · rw [if_pos hk]
    exact ⟨pick p b h w k, maxsi_zero _, fun _ => rfl⟩
  · rw [if_neg hk]
    exact ⟨0, rfl, fun h => absurd h hk⟩

theorem result_sum (f : (⟨3, ![2, 4096, 64]⟩ : Shape).Idx → EReal) (hf : V0 (Proc.devRef .tc main_arg1) = f)
    (b : Fin 2) (ch : Fin 64) (h w : Fin 128) :
    ∃ g t : Fin 8 → EReal, (∀ k, key p b h w (pick p b h w k) < ⊤ → g k = f (ix3 b (pick p b h w k) ch))
      ∧ (∀ k, t k = ∏ j, if j < k then 1 - stop V0 b h w j else 1)
      ∧ (val3 V0 (Proc.devRef .tc main_v122) (ix4 b ch h w) : EReal) = ∑ k, g k * (stop V0 b h w k * t k) := by
  obtain ⟨h0, h1, h2, h3, h4, h5, h6, h7⟩ := run_at V0 b h w
  rw [val3_main_v122, hf]
  clean_types
  pointwise []
  choose i hi hk using v113_at V0 p hp b h w
  refine ⟨fun k => f (ix3 b (i k) ch), fun k => ![left (res_main_v61 V0) b h w, left (res_main_v66 V0) b h w,
    left (res_main_v71 V0) b h w, left (res_main_v76 V0) b h w, left (res_main_v81 V0) b h w, left (res_main_v86 V0) b h w,
    left (res_main_v91 V0) b h w, left (res_main_v96 V0) b h w] k, fun k hv => congrArg (fun q => f (ix3 b q ch)) (hk k hv), fun k => ?_, ?_⟩
  · simp only [Fin.prod_univ_eight]
    fin_cases k <;> simp [h0, h1, h2, h3, h4, h5, h6, h7]
  · refine Finset.sum_congr rfl fun k _ => ?_
    have hg := gather_feat f (broadcastInDim S2x128x128x8x1 ![0, 1, 2, 3] bcast_S2x128x128x8_S2x128x128x8x1_0_1_2_3
        (select (cmpi CmpIPredicate.slt (res_main_v113 V0) (broadcastInDim S2x128x128x8 ![] bcast_S_S2x128x128x8 (constantI S_ 32 0#32)))
          (addi (res_main_v113 V0) (broadcastInDim S2x128x128x8 ![] bcast_S_S2x128x128x8 (constantI S_ 32 4096#32)))
          (res_main_v113 V0))) b h w k ch (i k) (by
      have e := hi k
      pointwise []
      rw [e, slt_zero, select_flag, if_neg not_false])
    refine congrArg₂ (· * ·) hg (congrArg (stop V0 b h w k * ·) ?_)
    fin_cases k <;> rfl

/-- The reference's result at channel `ch` of pixel `(h, w)`: the blended sum over the cloud's points. -/
theorem result_at (f : (⟨3, ![2, 4096, 64]⟩ : Shape).Idx → EReal) (hf : V0 (Proc.devRef .tc main_arg1) = f)
    (hz : ∀ b i, 0 < zs p b i ∧ zs p b i < ⊤) (b : Fin 2) (ch : Fin 64) (h w : Fin 128) :
    (val3 V0 (Proc.devRef .tc main_v122) (ix4 b ch h w) : EReal)
      = blend (fun i => dist2 (xs p b i) (ys p b i) (center w.val) (center h.val) ≤ radius2) (Before (zs p b))
          (fun i => dist2 (xs p b i) (ys p b i) (center w.val) (center h.val)) (fun i => f (ix3 b i ch)) := by
  obtain ⟨g, t, hg, ht, e⟩ := result_sum V0 p hp f hf b ch h w
  have hgap : ∀ i, gap p b h w i = dist2 (xs p b i) (ys p b i) (center w.val) (center h.val) := by
    intro i
    unfold gap dist2
    rw [center_eq w.isLt, center_eq h.isLt, square_sub_comm, square_sub_comm]
  have hkey : ∀ i, dist2 (xs p b i) (ys p b i) (center w.val) (center h.val) ≤ radius2 → key p b h w i = zs p b i := by
    intro i hi
    unfold key
    rw [if_pos ⟨(hgap i).symm ▸ hi, (hz b i).1⟩]
  have hnear : ∀ i, dist2 (xs p b i) (ys p b i) (center w.val) (center h.val) ≤ radius2 ↔ key p b h w i < ⊤ := by
    intro i
    refine ⟨fun hi => (hkey i hi).symm ▸ (hz b i).2, fun hi => ?_⟩
    by_contra hn
    unfold key at hi
    rw [hgap i, if_neg fun h => hn h.1] at hi
    exact lt_irrefl _ hi
  have hstop : ∀ k, key p b h w (pick p b h w k) < ⊤ → stop V0 b h w k
      = 1 - through (dist2 (xs p b (pick p b h w k)) (ys p b (pick p b h w k)) (center w.val) (center h.val)) := by
    intro k hk
    have hn := (hnear _).mpr hk
    refine (v58_at V0 p hp b h w k).trans ?_
    rw [if_pos hk, hgap]
    obtain ⟨u, u0, u1, hm, hs, hd, -⟩ := near_real (dist2_nonneg _ _ _ _) hn
    rw [hd, hs, max_comm, hm, min_eq_right (by exact_mod_cast u1), Ideal.pow_coe_coe]
    exact congrArg (fun r : ℝ => (1 : EReal) - (r : EReal)) (Real.sqrt_eq_rpow u).symm
  rw [e]
  refine (firstEight_eq_blend (by decide) _ (key p b h w) _ (fun i => f (ix3 b i ch)) ⊤ (fun i hi => ⟨dist2_nonneg _ _ _ _, hi⟩) hnear
    (order p b h w) ⟨sortedFrom_injective _, sortedFrom_surjective _⟩ (fun i j => sortedFrom_before_iff _ _ fun _ _ => rfl)
    (stop V0 b h w) t g (fun k hk => hstop k ((hnear _).mp hk)) (fun k hk => ?_) (fun k hk => hg k ((hnear _).mp hk)) ht).trans ?_
  · exact (v58_at V0 p hp b h w k).trans (if_neg fun h => hk ((hnear _).mpr h))
  · exact blend_reindex _ _ _ _ _ _ _ _ id (fun _ _ _ _ h => h) (fun _ h => h) (fun k hk => ⟨k, hk, rfl⟩)
      (fun i j hi hj => by simp only [Before, id, hkey i hi, hkey j hj]) (fun _ _ => rfl) (fun _ _ => rfl)

end At
end Cert.ReferenceIdeal.Ref
-- ==== Proof.Body.lean ====
module

public import proofs.«01_k».proof.Defs
public import proofs.«01_k».proof.Proof.Gen.KernelIdeal.Frame
public import proofs.«01_k».proof.Proof.Terms
public import Idealize.ShloMosaic.Lib.Pointwise

/-!
What one grid step of the kernel computes at an index, from the windows it loads.
-/

@[expose] public section
set_option maxRecDepth 16384
noncomputable section
namespace Cert.KernelIdeal.Body
open Cert.KernelIdeal Cert.KernelIdeal.Gen Cert.Blend
open Idealize.ShloMosaic Idealize.ShloMosaic.TcCoe

/-- The column of lane `l`, as a word. -/
theorem column_word (l : Fin 512) :
    IntOp.subi (BitVec.ofNat 32 ↑l)
      (IntOp.muli
        (Scalar.select
          (IntOp.andi
            (IntOp.cmpi CmpIPredicate.ne
              (IntOp.subi (BitVec.setWidth 32 (IntOp.cmpi CmpIPredicate.sgt (BitVec.ofNat 32 ↑l) 0#32))
                (BitVec.setWidth 32 (IntOp.cmpi CmpIPredicate.slt (BitVec.ofNat 32 ↑l) 0#32)))
              (Scalar.subi (Scalar.extui (Scalar.cmpi CmpIPredicate.sgt 128#32 0#32))
                (Scalar.extui (Scalar.cmpi CmpIPredicate.slt 128#32 0#32))))
            (IntOp.cmpi CmpIPredicate.ne (IntOp.remsi ArithUnit.vector (BitVec.ofNat 32 ↑l) 128#32) 0#32))
          (IntOp.subi (IntOp.divsi ArithUnit.vector (BitVec.ofNat 32 ↑l) 128#32) 1#32)
          (IntOp.divsi ArithUnit.vector (BitVec.ofNat 32 ↑l) 128#32))
        128#32) = BitVec.ofNat 32 (l % 128) := by
  revert l; decide +kernel

/-- The row of lane `l` within its band, as a word. -/
theorem row_word (l : Fin 512) :
    Scalar.select
      (IntOp.andi
        (IntOp.cmpi CmpIPredicate.ne
          (IntOp.subi (BitVec.setWidth 32 (IntOp.cmpi CmpIPredicate.sgt (BitVec.ofNat 32 ↑l) 0#32))
            (BitVec.setWidth 32 (IntOp.cmpi CmpIPredicate.slt (BitVec.ofNat 32 ↑l) 0#32)))
          (Scalar.subi (Scalar.extui (Scalar.cmpi CmpIPredicate.sgt 128#32 0#32))
            (Scalar.extui (Scalar.cmpi CmpIPredicate.slt 128#32 0#32))))
        (IntOp.cmpi CmpIPredicate.ne (IntOp.remsi ArithUnit.vector (BitVec.ofNat 32 ↑l) 128#32) 0#32))
      (IntOp.subi (IntOp.divsi ArithUnit.vector (BitVec.ofNat 32 ↑l) 128#32) 1#32)
      (IntOp.divsi ArithUnit.vector (BitVec.ofNat 32 ↑l) 128#32) = BitVec.ofNat 32 (l / 128) := by
  revert l; decide +kernel

/-- The horizontal pixel coordinate of lane `l`. -/
theorem across_at (l : Fin 512) :
    k0_pay6 (F := Ideal) (iota .tc S1x512 32 [1] iota_S1x512_d1_w32) k0_pay3 k0_pay4 k0_pay5 (ix2 0 l) = center (l % 128) := by
  unfold_payloads
  pointwise
  rw [column_word]
  rfl

/-- The vertical pixel coordinate of lane `l` in band `i 1`. -/
theorem down_at (i : grid0.Coords) (l : Fin 512) :
    k0_pay7 (F := Ideal) (k0_pay2 i) (ix2 0 l) = center (4 * (i 1).val + l / 128) := by
  unfold_payloads
  pointwise
  rw [row_word]
  have e : IntOp.addi (Scalar.muli (BitVec.ofNat 32 ↑(i 1)) 4#32) (BitVec.ofNat 32 (l / 128))
      = BitVec.ofNat 32 (4 * (i 1).val + l / 128) := by
    simp only [IntOp.addi, Scalar.muli, IntOp.muli, ← BitVec.ofNat_mul, ← BitVec.ofNat_add, mul_comm]
  rw [e]
  rfl

/-- The squared distance of row `i` of the window to lane `l`. -/
theorem dist_at (p q : FVec Ideal S1x512 .f32) (a : Vec Ideal S1x344x4 .f32) (i : Fin 344) (l : Fin 512) :
    k0_pay18 (F := Ideal) p q a (ix2 i l) = dist2 (a (ix3 0 i 0)) (a (ix3 0 i 1)) (p (ix2 0 l)) (q (ix2 0 l)) := by
  unfold_payloads
  pointwise
  rfl

/-- Whether row `i` of the window is near lane `l`. -/
theorem near_at (p q : FVec Ideal S1x512 .f32) (a : Vec Ideal S1x344x4 .f32) (i : Fin 344) (l : Fin 512) :
    k0_pay19 (F := Ideal) p q a (ix2 i l)
      = BitVec.ofBool (decide (dist2 (a (ix3 0 i 0)) (a (ix3 0 i 1)) (p (ix2 0 l)) (q (ix2 0 l)) ≤ radius2)) := by
  unfold_payloads
  pointwise
  rfl

/-- The normalised squared distance of row `i` of the window to lane `l`. -/
theorem norm_at (p q : FVec Ideal S1x512 .f32) (a : Vec Ideal S1x344x4 .f32) (i : Fin 344) (l : Fin 512) :
    k0_pay20 (F := Ideal) p q a (ix2 i l)
      = dist2 (a (ix3 0 i 0)) (a (ix3 0 i 1)) (p (ix2 0 l)) (q (ix2 0 l)) * ((16384 / 9 : ℝ) : EReal) := by
  unfold_payloads
  pointwise
  rfl

/-- The amount the row-oriented window is turned by, for a start of `8 * n`. -/
theorem turn_word (n : Fin 513) :
    (Scalar.subi (0#32)
      (Scalar.subi (BitVec.ofNat 32 (n * 8))
        (Scalar.muli
          (Scalar.select
            (Scalar.andi
              (Scalar.cmpi CmpIPredicate.ne
                (Scalar.subi (Scalar.extui (Scalar.cmpi CmpIPredicate.sgt (BitVec.ofNat 32 (n * 8)) 0#32))
                  (Scalar.extui (Scalar.cmpi CmpIPredicate.slt (BitVec.ofNat 32 (n * 8)) 0#32)))
                (Scalar.subi (Scalar.extui (Scalar.cmpi CmpIPredicate.sgt 128#32 0#32))
                  (Scalar.extui (Scalar.cmpi CmpIPredicate.slt 128#32 0#32))))
              (Scalar.cmpi CmpIPredicate.ne (Scalar.remsi (BitVec.ofNat 32 (n * 8)) 128#32) 0#32))
            (Scalar.subi (Scalar.divsi (BitVec.ofNat 32 (n * 8)) 128#32) 1#32) (Scalar.divsi (BitVec.ofNat 32 (n * 8)) 128#32))
          128#32))).toNat % 512 = (512 - (n * 8) % 128) % 512 := by
  revert n; decide +kernel

/-- Turned by that amount, lane `i` shows lane `i + 8 * n % 128`. -/
theorem turned (n : ℕ) (i : Fin 344) : (i.val + 512 - (512 - (n * 8) % 128) % 512) % 512 = i.val + n * 8 % 128 := by
  have := i.isLt; omega

/-- Lane `i` of the row-oriented window lies inside it. -/
theorem lane_lt (n : ℕ) (i : Fin 344) : i.val + n * 8 % 128 < 512 := by have := i.isLt; omega

theorem depths_at (n : Fin 513) (s : BitVec 32) (hs : s = BitVec.ofNat 32 (n * 8)) (r : Vec Ideal S1x2x512 .f32) (i : Fin 344) :
    k0_pay16 s 128#32 (Scalar.divsi s 128#32) (Scalar.extui (Scalar.cmpi .sgt s 0#32)) (Scalar.extui (Scalar.cmpi .slt s 0#32)) r (ix2 0 i)
      = r (ix3 0 0 ⟨i.val + n * 8 % 128, lane_lt n i⟩) := by
  subst hs
  unfold_payloads
  pointwise
  refine congrArg r (congrArg (ix3 (0 : Fin 1) (0 : Fin 2)) (Fin.ext ?_))
  show (_ + 512 - _ % 512) % 512 = _
  rw [turn_word]
  exact turned n i

theorem names_at (n : Fin 513) (s : BitVec 32) (hs : s = BitVec.ofNat 32 (n * 8)) (r : Vec Ideal S1x2x512 .f32) (i : Fin 344) :
    k0_pay17 s 128#32 (Scalar.divsi s 128#32) (Scalar.extui (Scalar.cmpi .sgt s 0#32)) (Scalar.extui (Scalar.cmpi .slt s 0#32)) r (ix2 0 i)
      = r (ix3 0 1 ⟨i.val + n * 8 % 128, lane_lt n i⟩) := by
  subst hs
  unfold_payloads
  pointwise
  refine congrArg r (congrArg (ix3 (0 : Fin 1) (1 : Fin 2)) (Fin.ext ?_))
  show (_ + 512 - _ % 512) % 512 = _
  rw [turn_word]
  exact turned n i

/-- The step's output at channel `ch` and lane `l`: the blended sum over the rows of the window. -/
theorem step_at (i : grid0.Coords) (n : Fin 513) (s : BitVec 32) (hs : s = BitVec.ofNat 32 (n * 8))
    (a : Vec Ideal S1x344x4 .f32) (b : Vec Ideal S1x344x64 .f32) (r : Vec Ideal S1x2x512 .f32) (ch : Fin 64) (l : Fin 512) :
    k0_pay1 (k0_pay21 (F := Ideal) k0_pay8 k0_pay9 k0_pay10 (k0_pay12 b) (k0_pay13 a) (k0_pay14 a)
      (k0_pay16 s 128#32 (Scalar.divsi s 128#32) (Scalar.extui (Scalar.cmpi .sgt s 0#32)) (Scalar.extui (Scalar.cmpi .slt s 0#32)) r)
      (k0_pay17 s 128#32 (Scalar.divsi s 128#32) (Scalar.extui (Scalar.cmpi .sgt s 0#32)) (Scalar.extui (Scalar.cmpi .slt s 0#32)) r)
      (k0_pay18 (k0_pay6 (iota .tc S1x512 32 [1] iota_S1x512_d1_w32) k0_pay3 k0_pay4 k0_pay5) (k0_pay7 (k0_pay2 i)) a)
      (k0_pay19 (k0_pay6 (iota .tc S1x512 32 [1] iota_S1x512_d1_w32) k0_pay3 k0_pay4 k0_pay5) (k0_pay7 (k0_pay2 i)) a)
      (k0_pay20 (k0_pay6 (iota .tc S1x512 32 [1] iota_S1x512_d1_w32) k0_pay3 k0_pay4 k0_pay5) (k0_pay7 (k0_pay2 i)) a)
      (FloatOps.ofBits .f32 0x3A83126F#32)) (ix3 0 ch l)
      = rowSum
          (fun k : Fin 344 => dist2 (a (ix3 0 k 0)) (a (ix3 0 k 1)) (center (l % 128)) (center (4 * (i 1).val + l / 128)) ≤ radius2)
          (fun j k => a (ix3 0 j 2) < r (ix3 0 0 ⟨k.val + n * 8 % 128, lane_lt n k⟩)
            ∨ (a (ix3 0 j 2) = r (ix3 0 0 ⟨k.val + n * 8 % 128, lane_lt n k⟩)
              ∧ a (ix3 0 j 3) < r (ix3 0 1 ⟨k.val + n * 8 % 128, lane_lt n k⟩)))
          (fun k => dist2 (a (ix3 0 k 0)) (a (ix3 0 k 1)) (center (l % 128)) (center (4 * (i 1).val + l / 128)))
          (fun k => b (ix3 0 k ch)) := by
  have depth (j : Fin 344) : k0_pay13 a (ix2 j 0) = a (ix3 0 j 2) := by unfold_payloads; pointwise
  have name (j : Fin 344) : k0_pay14 a (ix2 j 0) = a (ix3 0 j 3) := by unfold_payloads; pointwise
  have feat (j : Fin 344) : k0_pay12 b (ix2 j ch) = b (ix3 0 j ch) := by unfold_payloads; pointwise
  have e16 := depths_at n s hs r
  have e17 := names_at n s hs r
  have e18 := fun k => dist_at (k0_pay6 (iota .tc S1x512 32 [1] iota_S1x512_d1_w32) k0_pay3 k0_pay4 k0_pay5) (k0_pay7 (k0_pay2 i)) a k l
  have e19 := fun k => near_at (k0_pay6 (iota .tc S1x512 32 [1] iota_S1x512_d1_w32) k0_pay3 k0_pay4 k0_pay5) (k0_pay7 (k0_pay2 i)) a k l
  have e20 := fun k => norm_at (k0_pay6 (iota .tc S1x512 32 [1] iota_S1x512_d1_w32) k0_pay3 k0_pay4 k0_pay5) (k0_pay7 (k0_pay2 i)) a k l
  rw [across_at, down_at] at e18 e19 e20
  generalize k0_pay16 s 128#32 (Scalar.divsi s 128#32) (Scalar.extui (Scalar.cmpi .sgt s 0#32)) (Scalar.extui (Scalar.cmpi .slt s 0#32)) r = v16 at *
  generalize k0_pay17 s 128#32 (Scalar.divsi s 128#32) (Scalar.extui (Scalar.cmpi .sgt s 0#32)) (Scalar.extui (Scalar.cmpi .slt s 0#32)) r = v17 at *
  generalize k0_pay18 (k0_pay6 (iota .tc S1x512 32 [1] iota_S1x512_d1_w32) k0_pay3 k0_pay4 k0_pay5) (k0_pay7 (k0_pay2 i)) a = v18 at *
  generalize k0_pay19 (k0_pay6 (iota .tc S1x512 32 [1] iota_S1x512_d1_w32) k0_pay3 k0_pay4 k0_pay5) (k0_pay7 (k0_pay2 i)) a = v19 at *
  generalize k0_pay20 (k0_pay6 (iota .tc S1x512 32 [1] iota_S1x512_d1_w32) k0_pay3 k0_pay4 k0_pay5) (k0_pay7 (k0_pay2 i)) a = v20 at *
  generalize k0_pay13 a = v13 at *
  generalize k0_pay14 a = v14 at *
  generalize k0_pay12 b = v12 at *
  unfold_payloads
  pointwise
  simp only [e16, e17, e18, e19, e20, depth, name, feat, flag_or, flag_and, select_flag, sitofp_flag]
  unfold rowSum
  have e : (Named.named (φ := .f32) κ "inv_r2" 0x44E38E39#32 : Ideal .f32) = ((16384 / 9 : ℝ) : EReal) := rfl
  simp only [through, least, e]
  congr!

end Cert.KernelIdeal.Body
-- ==== Proof.Arr.lean ====
module

public import proofs.«01_k».proof.Defs
public import proofs.«01_k».proof.Proof.StartsIdeal
public import proofs.«01_k».proof.Proof.Body
public import Idealize.ShloMosaic.Lib.Pipeline.ValueKit

/-!
The array the kernel's grid writes, at an index, from the arrays the grid reads.
-/

@[expose] public section
set_option maxRecDepth 16384
noncomputable section
namespace Cert.KernelIdeal.Arr
open Cert.KernelIdeal Cert.KernelIdeal.Gen Cert.Blend
open Idealize.ShloMosaic Idealize.ShloMosaic.TcCoe

/-- Row `k` of the window that starts at row `8 * n`. -/
def rowAt (n : Fin 513) (k : Fin 344) : Fin 4952 := ⟨n.val * 8 + k.val, by have := n.isLt; have := k.isLt; omega⟩

/-- The blended value of pixel `P`, channel `ch` of cloud `b`, over the window that starts at row `8 * n`. -/
def pixelSum (C : S2x4952x4.Idx → EReal) (T : S2x4x4952.Idx → EReal) (E : S2x4952x64.Idx → EReal)
    (n : Fin 513) (b : Fin 2) (ch : Fin 64) (P : Fin 16384) : EReal :=
  rowSum
    (fun k : Fin 344 => dist2 (C (ix3 b (rowAt n k) 0)) (C (ix3 b (rowAt n k) 1)) (center (P % 128)) (center (P / 128)) ≤ radius2)
    (fun j k => C (ix3 b (rowAt n j) 2) < T (ix3 b 2 (rowAt n k))
      ∨ (C (ix3 b (rowAt n j) 2) = T (ix3 b 2 (rowAt n k)) ∧ C (ix3 b (rowAt n j) 3) < T (ix3 b 3 (rowAt n k))))
    (fun k => dist2 (C (ix3 b (rowAt n k) 0)) (C (ix3 b (rowAt n k) 1)) (center (P % 128)) (center (P / 128)))
    (fun k => E (ix3 b (rowAt n k) ch))

/-- Pixel `512 * t + l` is pixel row `4 * t + l / 128`, pixel column `l % 128`. -/
theorem pixelSum_lane (C : S2x4952x4.Idx → EReal) (T : S2x4x4952.Idx → EReal) (E : S2x4952x64.Idx → EReal)
    (n : Fin 513) (b : Fin 2) (ch : Fin 64) (t : Fin 32) (l : Fin 512) (h : t.val * 512 + l.val < 16384) :
    pixelSum C T E n b ch ⟨t.val * 512 + l.val, h⟩ = rowSum
      (fun k : Fin 344 => dist2 (C (ix3 b (rowAt n k) 0)) (C (ix3 b (rowAt n k) 1))
        (center (l % 128)) (center (4 * t.val + l / 128)) ≤ radius2)
      (fun j k => C (ix3 b (rowAt n j) 2) < T (ix3 b 2 (rowAt n k))
        ∨ (C (ix3 b (rowAt n j) 2) = T (ix3 b 2 (rowAt n k)) ∧ C (ix3 b (rowAt n j) 3) < T (ix3 b 3 (rowAt n k))))
      (fun k => dist2 (C (ix3 b (rowAt n k) 0)) (C (ix3 b (rowAt n k) 1))
        (center (l % 128)) (center (4 * t.val + l / 128)))
      (fun k => E (ix3 b (rowAt n k) ch)) := by
  have ew : (t.val * 512 + l.val) % 128 = l % 128 := by omega
  have eh : (t.val * 512 + l.val) / 128 = 4 * t.val + l / 128 := by omega
  unfold pixelSum
  simp only [ew, eh]

/-- One grid step at channel `ch` and lane `l`, its loaded windows being rows of `C`, `T` and `E`. -/
theorem step_window (i : grid0.Coords) (n : Fin 513) (s : BitVec 32) (hs : s = BitVec.ofNat 32 (n * 8))
    (a : Vec Ideal S1x344x4 .f32) (e : Vec Ideal S1x344x64 .f32) (r : Vec Ideal S1x2x512 .f32)
    (C : S2x4952x4.Idx → EReal) (T : S2x4x4952.Idx → EReal) (E : S2x4952x64.Idx → EReal) (b : Fin 2) (t : Fin 32)
    (ht : (i 1).val = t.val) (ch : Fin 64) (l : Fin 512) (h : t.val * 512 + l.val < 16384)
    (ha : ∀ (k : Fin 344) (q : Fin 4), a (ix3 0 k q) = C (ix3 b (rowAt n k) q))
    (he : ∀ (k : Fin 344) (q : Fin 64), e (ix3 0 k q) = E (ix3 b (rowAt n k) q))
    (hr : ∀ (k : Fin 344) (q : Fin 2), r (ix3 0 q ⟨k.val + n * 8 % 128, Body.lane_lt n k⟩)
      = T (ix3 b ⟨2 + q, by have := q.isLt; omega⟩ (rowAt n k))) :
    k0_pay1 (k0_pay21 (F := Ideal) k0_pay8 k0_pay9 k0_pay10 (k0_pay12 e) (k0_pay13 a) (k0_pay14 a)
      (k0_pay16 s 128#32 (Scalar.divsi s 128#32) (Scalar.extui (Scalar.cmpi .sgt s 0#32)) (Scalar.extui (Scalar.cmpi .slt s 0#32)) r)
      (k0_pay17 s 128#32 (Scalar.divsi s 128#32) (Scalar.extui (Scalar.cmpi .sgt s 0#32)) (Scalar.extui (Scalar.cmpi .slt s 0#32)) r)
      (k0_pay18 (k0_pay6 (iota .tc S1x512 32 [1] iota_S1x512_d1_w32) k0_pay3 k0_pay4 k0_pay5) (k0_pay7 (k0_pay2 i)) a)
      (k0_pay19 (k0_pay6 (iota .tc S1x512 32 [1] iota_S1x512_d1_w32) k0_pay3 k0_pay4 k0_pay5) (k0_pay7 (k0_pay2 i)) a)
      (k0_pay20 (k0_pay6 (iota .tc S1x512 32 [1] iota_S1x512_d1_w32) k0_pay3 k0_pay4 k0_pay5) (k0_pay7 (k0_pay2 i)) a)
      (FloatOps.ofBits .f32 0x3A83126F#32)) (ix3 0 ch l) = pixelSum C T E n b ch ⟨t.val * 512 + l.val, h⟩ := by
  rw [Body.step_at i n s hs a e r ch l, pixelSum_lane, ht]
  have h0 : ∀ k : Fin 344, r (ix3 0 0 ⟨k.val + n * 8 % 128, Body.lane_lt n k⟩) = T (ix3 b 2 (rowAt n k)) := fun k => hr k 0
  have h1 : ∀ k : Fin 344, r (ix3 0 1 ⟨k.val + n * 8 % 128, Body.lane_lt n k⟩) = T (ix3 b 3 (rowAt n k)) := fun k => hr k 1
  simp only [ha, he, h0, h1]

variable (m : (ℓ : Loc nD τ sig) → Buf (Elt Ideal) ℓ)

/-- The start of the window of band `t` of cloud `b`, in units of eight rows. -/
def start (c : Dev nD) (b : Fin 2) (t : Fin 32) : Fin 513 :=
  ⟨Starts.below (Starts.sortedY m c) b t / 8, by have := Starts.below_le (Starts.sortedY m c) b t; omega⟩

/-- The band of pixel `P`. -/
def band (P : Fin 16384) : Fin 32 := ⟨P.val / 512, by have := P.isLt; omega⟩

/-- The arrays the grid reads: the rows `(x, y, z, index)`, their transpose, the features. -/
def rows (c : Dev nD) : S2x4952x4.Idx → EReal := V m c main_v54
def lanes (c : Dev nD) : S2x4x4952.Idx → EReal := V m c main_v53
def feats (c : Dev nD) : S2x4952x64.Idx → EReal := V m c main_v76

/-- What the grid leaves at cloud `b`, channel `ch`, pixel `P`. -/
def value (c : Dev nD) (b : Fin 2) (ch : Fin 64) (P : Fin 16384) : EReal :=
  pixelSum (rows m c) (lanes m c) (feats m c) (start m c b (band P)) b ch P

/-- Where the loads of a window start. -/
theorem off_rows (n : Fin 513) : k0_off1 (BitVec.ofNat 32 (n.val * 8)) = ![0, n.val * 8, 0] := by
  revert n; decide +kernel
theorem off_feats (n : Fin 513) : k0_off2 (BitVec.ofNat 32 (n.val * 8)) = ![0, n.val * 8, 0] := by
  revert n; decide +kernel
theorem off_lanes (n : Fin 513) : k0_off3 (BitVec.ofNat 32 (n.val * 8)) = ![0, 2, n.val * 8 / 128 * 128] := by
  revert n; decide +kernel

theorem idx : ∀ t : Fin grid0.N, win0_0.index t = ![(grid0.coords t 0).val, (grid0.coords t 1).val, 0, 0]
    ∧ win0_1.index t = ![(grid0.coords t 0).val, 0, 0] ∧ win0_2.index t = ![(grid0.coords t 0).val, 0, 0]
    ∧ win0_3.index t = ![(grid0.coords t 0).val, 0, 0] ∧ win0_4.index t = ![(grid0.coords t 0).val, 0, (grid0.coords t 1).val] := by
  decide +kernel

/-- The block of the starts that point `t` reads. -/
theorem starts_block (c : Dev nD) (t : Fin grid0.N) (j : S1x1x1x1.Idx) :
    iblk m c 0 t j = BitVec.ofNat 32 ((start m c (grid0.coords t 0) (grid0.coords t 1)).val * 8) := by
  refine Eq.trans ?_ (Starts.starts_at m c (grid0.coords t 0) (grid0.coords t 1))
  blk_ext [iblk, V, (idx t).1]

theorem rows_block (c : Dev nD) (t : Fin grid0.N) (r : Fin 4952) (q : Fin 4) :
    iblk m c 1 t (ix3 0 r q) = rows m c (ix3 (grid0.coords t 0) r q) := by
  show _ = V m c main_v54 _
  blk_ext [iblk, V, (idx t).2.1]

theorem lanes_block (c : Dev nD) (t : Fin grid0.N) (r : Fin 4952) (q : Fin 4) :
    iblk m c 2 t (ix3 0 q r) = lanes m c (ix3 (grid0.coords t 0) q r) := by
  show _ = V m c main_v53 _
  blk_ext [iblk, V, (idx t).2.2.1]

theorem feats_block (c : Dev nD) (t : Fin grid0.N) (r : Fin 4952) (q : Fin 64) :
    iblk m c 3 t (ix3 0 r q) = feats m c (ix3 (grid0.coords t 0) r q) := by
  show _ = V m c main_v76 _
  blk_ext [iblk, V, (idx t).2.2.2.1]

/-- A load of 344 rows from the start, at an index. -/
theorem ld_rows (X : S1x4952x4.Idx → Elt Ideal .f32) (n : Fin 513) (s : BitVec 32) (hs : s = BitVec.ofNat 32 (n.val * 8))
    (h : ∀ a, k0_off1 s a + S1x344x4.size a ≤ S1x4952x4.size a) (k : Fin 344) (q : Fin 4) :
    View.ld (Val := Elt Ideal) (e' := .f32) X (Rect.unit (s := S1x4952x4) (k0_off1 s) ![1, 344, 4] h) (ix3 0 k q) = X (ix3 0 (rowAt n k) q) := by
  subst hs
  refine View.ld_unit_apply_of _ _ _ _ _ _ ?_
  intro a
  refine Eq.trans ?_ (congrArg₂ (· + ·) (congrFun (off_rows n) a).symm rfl)
  fin_cases a <;> simp [rowAt]

theorem ld_feats (X : S1x4952x64.Idx → Elt Ideal .f32) (n : Fin 513) (s : BitVec 32) (hs : s = BitVec.ofNat 32 (n.val * 8))
    (h : ∀ a, k0_off2 s a + S1x344x64.size a ≤ S1x4952x64.size a) (k : Fin 344) (q : Fin 64) :
    View.ld (Val := Elt Ideal) (e' := .f32) X (Rect.unit (s := S1x4952x64) (k0_off2 s) ![1, 344, 64] h) (ix3 0 k q) = X (ix3 0 (rowAt n k) q) := by
  subst hs
  refine View.ld_unit_apply_of _ _ _ _ _ _ ?_
  intro a
  refine Eq.trans ?_ (congrArg₂ (· + ·) (congrFun (off_feats n) a).symm rfl)
  fin_cases a <;> simp [rowAt]

theorem ld_lanes (X : S1x4x4952.Idx → Elt Ideal .f32) (n : Fin 513) (s : BitVec 32) (hs : s = BitVec.ofNat 32 (n.val * 8))
    (h : ∀ a, k0_off3 s a + S1x2x512.size a ≤ S1x4x4952.size a) (k : Fin 344) (q : Fin 2) :
    View.ld (Val := Elt Ideal) (e' := .f32) X (Rect.unit (s := S1x4x4952) (k0_off3 s) ![1, 2, 512] h) (ix3 0 q ⟨k.val + n * 8 % 128, Body.lane_lt n k⟩)
      = X (ix3 0 ⟨2 + q, by have := q.isLt; omega⟩ (rowAt n k)) := by
  subst hs
  refine View.ld_unit_apply_of _ _ _ _ _ _ ?_
  intro a
  refine Eq.trans ?_ (congrArg₂ (· + ·) (congrFun (off_lanes n) a).symm rfl)
  fin_cases a <;> simp [rowAt]
  omega

set_option maxHeartbeats 400000 in
theorem arr (c : Dev nD) :
    (dats m (Starts.hyps m) 0 c).arrAt 4 cfg0.N = fun j : S2x64x16384.Idx => value m c (j 0) (j 1) (j 2) := by
  refine (dats m (Starts.hyps m) 0 c).arrAt_eq_of_covers 4 _ (by decide +kernel) fun t hf y => ?_
  blk_simp
  rw [after0_4]
  unfold outsAt0
  frame_out
  obtain ⟨ch, l, rfl⟩ : ∃ (ch : Fin 64) (l : Fin 512), y = ix3 0 ch l := by
    refine ⟨y 1, y 2, ?_⟩
    rw [eq_ix3 y]
    exact congrArg (fun a => ix3 a (y 1) (y 2)) (Subsingleton.elim (α := Fin 1) _ _)
  have hs : ∀ j, View.ld (iblk m c 0 t) (Rect.unit ![0, 0, 0, 0] ![1, 1, 1, 1] inb_S1x1x1x1_S1x1x1x1_0_0_0_0) j
      = BitVec.ofNat 32 ((start m c (grid0.coords t 0) (grid0.coords t 1)).val * 8) := fun j => starts_block m c t _
  have hs' : ∀ j, View.ld (View.read (Elt Ideal) (ms0_0 t).view ((hs0_0 t).unread (iblk m c 0 t)))
      (Rect.unit ![0, 0, 0, 0] ![1, 1, 1, 1] inb_S1x1x1x1_S1x1x1x1_0_0_0_0) j
      = BitVec.ofNat 32 ((start m c (grid0.coords t 0) (grid0.coords t 1)).val * 8) := by
    intro j
    rw [Memref.IsWhole.read_unread]
    exact hs j
  have h1 : (grid0.coords t 1).val < 32 := (grid0.coords t 1).isLt
  have e0 : ((View.whole main_v112).slice (win0_4.rect t)).emb (ix3 0 ch l) 0 = grid0.coords t 0 := by
    refine Fin.ext ?_
    blk_simp [(idx t).2.2.2.2]
    simp
  have e1 : ((View.whole main_v112).slice (win0_4.rect t)).emb (ix3 0 ch l) 1 = ch := by
    refine Fin.ext ?_
    blk_simp [(idx t).2.2.2.2]
  have e2 : ((View.whole main_v112).slice (win0_4.rect t)).emb (ix3 0 ch l) 2
      = (⟨(grid0.coords t 1).val * 512 + l.val, by have := l.isLt; omega⟩ : Fin 16384) := by
    refine Fin.ext ?_
    blk_simp [(idx t).2.2.2.2]
  rw [e0, e1, e2]
  have eb : band ⟨(grid0.coords t 1).val * 512 + l.val, by have := l.isLt; omega⟩ = grid0.coords t 1 :=
    Fin.ext (by show (_ * 512 + l.val) / 512 = _; have := l.isLt; omega)
  unfold value
  rw [eb]
  exact step_window (grid0.coords t) _ _ (hs _) _ _ _ (rows m c) (lanes m c) (feats m c) (grid0.coords t 0) (grid0.coords t 1) rfl ch l _
    (fun k q => (ld_rows _ _ _ (hs' _) _ k q).trans (rows_block m c t _ q))
    (fun k q => (ld_feats _ _ _ (hs' _) _ k q).trans (feats_block m c t _ q))
    (fun k q => (ld_lanes _ _ _ (hs' _) _ k q).trans (lanes_block m c t _ _))

end Cert.KernelIdeal.Arr
-- ==== Proof.Layout.lean ====
module

public import proofs.«01_k».proof.Proof.Ref
public import proofs.«01_k».proof.Proof.StartsIdeal
public import proofs.«01_k».proof.Proof.Arr
public import Idealize.ShloMosaic.Lib.StableHlo.ReadAt
public import Idealize.ShloMosaic.Lib.WordCmp

/-!
What the kernel's entry code lays out: the cloud's points in an order in which the second coordinate never falls, padded, and
the features in the same order.
-/

@[expose] public section
noncomputable section
namespace Cert.KernelIdeal.Layout
open Cert.KernelIdeal Cert.KernelIdeal.Gen Cert.KernelIdeal.Starts Cert.Blend Idealize.ShloMosaic Idealize.ShloMosaic.TcCoe Idealize.ShloMosaic.StableHlo
open Cert.ReferenceIdeal.Ref (slt_zero sge_zero sle_last)

theorem before_at (l r : Ideal .f32 × BitVec 32) : (comparator_f32_i32_d1 (F := Ideal) l r == 1#1) = decide ((l.1 : EReal) < r.1) := by
  have e : ∀ x : Ideal .f32, Scalar.select (FloatOps.cmpf .une x x) (FloatOps.ofBits FTy.f32 0x7FC00000#32)
      (Scalar.select (FloatOps.cmpf .oeq x (FloatOps.ofBits FTy.f32 0x00000000#32)) (FloatOps.ofBits FTy.f32 0x00000000#32) x) = x := by
    intro x
    have h1 : FloatOps.cmpf .une x x = BitVec.ofBool (decide False) := by
      show BitVec.ofBool (decide ((x : EReal) ≠ x)) = _
      simp
    have h2 : FloatOps.cmpf .oeq x (FloatOps.ofBits FTy.f32 0x00000000#32)
        = BitVec.ofBool (decide ((x : EReal) = Ideal.ofBits FTy.f32 0x00000000#32)) := by
      show BitVec.ofBool (decide ((x : EReal) = Ideal.ofBits FTy.f32 0x00000000#32)) = _
      rfl
    rw [h1, h2, select_flag, select_flag, if_neg not_false]
    split
    · rename_i h
      exact h.symm
    · rfl
  unfold comparator_f32_i32_d1
  simp only [e]
  show (BitVec.ofBool (decide ((l.1 : EReal) < r.1)) == 1#1) = _
  by_cases h : (l.1 : EReal) < r.1 <;> simp [h]

/-- A row gather reads the entry its index word names. -/
theorem gather_row {α : Type} (x : S2x4096.Idx → α) (idx : IVec S2x4096x1 32) (b : Fin 2) (k : Fin 4096)
    (i : Fin 4096) (hi : idx (ix3 b k 0) = BitVec.ofNat 32 i.val) :
    Host.gather gather_S2x4096_S2x4096x1_S2x4096_n_1_0_0_1_2_11 x idx (ix2 b k) = x (ix2 b i) := by
  refine congrArg x (funext fun a => Fin.ext ?_)
  have hn : (BitVec.ofNat 32 i.val).toInt.toNat = i.val := by
    rw [BitVec.toInt_eq_toNat_cond, BitVec.toNat_ofNat]
    have := i.isLt
    omega
  fin_cases a
  · show 0 + b.val + 0 = b.val
    omega
  · show min (idx (gather_S2x4096_S2x4096x1_S2x4096_n_1_0_0_1_2_11.siIdx (ix2 b k) ⟨0, _⟩)).toInt.toNat 4095 = i.val
    have e : gather_S2x4096_S2x4096x1_S2x4096_n_1_0_0_1_2_11.siIdx (ix2 b k) ⟨0, by decide⟩ = ix3 b k 0 := by
      funext q
      fin_cases q <;> rfl
    rw [e, hi, hn]
    have := i.isLt
    omega

/-- A row taken at in-range index words, as the entry code takes it: negative words would wrap, words out of range would read a
    fill value, and neither happens. -/
theorem taken {α : Type} (x : S2x4096.Idx → α) (u : IVec S2x4096 32) (fill : α) (b : Fin 2) (k i : Fin 4096)
    (hi : u (ix2 b k) = BitVec.ofNat 32 i.val) :
    Scalar.select
      (Finset.fold IntOp.andi (1#1)
        (fun _ : Fin 1 =>
          IntOp.andi
            (IntOp.cmpi .sge (Scalar.select (IntOp.cmpi .slt (u (ix2 b k)) 0#32) (IntOp.addi (u (ix2 b k)) 4096#32) (u (ix2 b k))) 0#32)
            (IntOp.cmpi .sle (Scalar.select (IntOp.cmpi .slt (u (ix2 b k)) 0#32) (IntOp.addi (u (ix2 b k)) 4096#32) (u (ix2 b k))) 4095#32))
        Finset.univ)
      (Host.gather gather_S2x4096_S2x4096x1_S2x4096_n_1_0_0_1_2_11 x
        (fun j : S2x4096x1.Idx => Scalar.select (IntOp.cmpi .slt (u (ix2 (j 0) (j 1))) 0#32)
          (IntOp.addi (u (ix2 (j 0) (j 1))) 4096#32) (u (ix2 (j 0) (j 1))))
        (ix2 b k))
      fill = x (ix2 b i) := by
  have hw : Scalar.select (IntOp.cmpi .slt (u (ix2 b k)) 0#32) (IntOp.addi (u (ix2 b k)) 4096#32) (u (ix2 b k)) = BitVec.ofNat 32 i.val := by
    rw [hi, slt_zero, select_flag, if_neg not_false]
  rw [gather_row x _ b k i hw, hw, sge_zero, sle_last]
  rfl

section Stage
variable (W : Valuation τ sig (Elt Ideal))

theorem coords_at (p : Cloud.Idx → EReal) (hp : W (Proc.devRef .tc main_arg0) = p) (b : Fin 2) (i : Fin 4096) :
    after hostOps0 W (Proc.devRef .tc main_v4) (ix2 b i) = xs p b i ∧ after hostOps0 W (Proc.devRef .tc main_v6) (ix2 b i) = ys p b i
      ∧ after hostOps0 W (Proc.devRef .tc main_v8) (ix2 b i) = zs p b i := by
  subst hp
  refine ⟨?_, ?_, ?_⟩
  · after_reads_at
    rfl
  · after_reads_at
    rfl
  · after_reads_at
    have e : Ideal.ofBits FTy.f32 (lit0 (S3.rowMajor (ix1 2))) = 1 := Ideal.ofBits_one_f32
    rw [e]
    exact mul_one _

theorem sort1_at (z : S2x4096.Idx → EReal) (hz : W (Proc.devRef .tc main_v8) = z) (b : Fin 2) (k : Fin 4096) :
    after hostOps0_1 W (Proc.devRef .tc main_v9) (ix2 b k)
      = BitVec.ofNat 32 (sortedFrom (fun k k' => decide (z (ix2 b k) < z (ix2 b k'))) k).val := by
  subst hz
  after_reads_at
  exact sort2_at _ _ _ b _ (fun k k' => before_at _ _) k

theorem sort2_at' (z : S2x4096.Idx → EReal) (hz : W (Proc.devRef .tc main_v18) = z) (b : Fin 2) (k : Fin 4096) :
    after hostOps0_6 W (Proc.devRef .tc main_v19) (ix2 b k)
      = BitVec.ofNat 32 (sortedFrom (fun k k' => decide (z (ix2 b k) < z (ix2 b k'))) k).val := by
  subst hz
  after_reads_at
  exact sort2_at _ _ _ b _ (fun k k' => before_at _ _) k

theorem take1_at (u : IVec S2x4096 32) (hu : W (Proc.devRef .tc main_v9) = u) (y : S2x4096.Idx → EReal) (hy : W (Proc.devRef .tc main_v6) = y)
    (b : Fin 2) (k i : Fin 4096) (hi : u (ix2 b k) = BitVec.ofNat 32 i.val) :
    after hostOps0_2 W (Proc.devRef .tc main_v10) (ix2 b k) = y (ix2 b i) := by
  subst hu hy
  after_reads_at
  exact taken _ _ _ b k i hi

theorem take4_at (u : IVec S2x4096 32) (hu : W (Proc.devRef .tc main_v19) = u) (y : IVec S2x4096 32) (hy : W (Proc.devRef .tc main_v9) = y)
    (b : Fin 2) (k i : Fin 4096) (hi : u (ix2 b k) = BitVec.ofNat 32 i.val) :
    after hostOps0_7 W (Proc.devRef .tc main_v20) (ix2 b k) = y (ix2 b i) := by
  subst hu hy
  after_reads_at
  exact taken _ _ _ b k i hi

theorem take5_at (u : IVec S2x4096 32) (hu : W (Proc.devRef .tc main_v20) = u) (y : S2x4096.Idx → EReal) (hy : W (Proc.devRef .tc main_v4) = y)
    (b : Fin 2) (k i : Fin 4096) (hi : u (ix2 b k) = BitVec.ofNat 32 i.val) :
    after hostOps0_8 W (Proc.devRef .tc main_v21) (ix2 b k) = y (ix2 b i) := by
  subst hu hy
  after_reads_at
  exact taken _ _ _ b k i hi

theorem take6_at (u : IVec S2x4096 32) (hu : W (Proc.devRef .tc main_v20) = u) (y : S2x4096.Idx → EReal) (hy : W (Proc.devRef .tc main_v6) = y)
    (b : Fin 2) (k i : Fin 4096) (hi : u (ix2 b k) = BitVec.ofNat 32 i.val) :
    after hostOps0_9 W (Proc.devRef .tc main_v22) (ix2 b k) = y (ix2 b i) := by
  subst hu hy
  after_reads_at
  exact taken _ _ _ b k i hi

theorem take7_at (u : IVec S2x4096 32) (hu : W (Proc.devRef .tc main_v20) = u) (y : S2x4096.Idx → EReal) (hy : W (Proc.devRef .tc main_v8) = y)
    (b : Fin 2) (k i : Fin 4096) (hi : u (ix2 b k) = BitVec.ofNat 32 i.val) :
    after hostOps0_10 W (Proc.devRef .tc main_v23) (ix2 b k) = y (ix2 b i) := by
  subst hu hy
  after_reads_at
  exact taken _ _ _ b k i hi

theorem iota_at (k : Fin 4096) : after hostOps0_3 W (Proc.devRef .tc main_v11) (ix1 k) = BitVec.ofNat 32 k.val
    ∧ after hostOps0_3 W (Proc.devRef .tc main_c) ix0 = 4096#32 := by
  constructor
  · after_reads_at
  · after_reads_at

theorem bucket_at (k : Fin 4096) (hu : W (Proc.devRef .tc main_v11) (ix1 k) = BitVec.ofNat 32 k.val)
    (hc : W (Proc.devRef .tc main_c) ix0 = 4096#32) :
    after hostOps0_4 W (Proc.devRef .tc main_v12) (ix1 k) = 0#32 := by
  after_reads_at
  have hc' : (id (W (Proc.devRef .tc main_c)) : S_.Idx → BitVec 32) ix0 = BitVec.ofNat 32 4096 := hc
  have hk := k.isLt
  have hn' : k.val < 2 ^ 31 := by omega
  rw [hu, hc', Routing.remsi_word .host hn' (by decide) (by decide), Routing.divsi_word .host hn' (by decide) (by decide), Routing.msb_ofNat32 hn',
    Nat.div_eq_of_lt hk]
  rcases Nat.eq_zero_or_pos k.val with h | h
  · rw [h]
    rfl
  · have e : IntOp.cmpi .ne (if false = true then (-1 : BitVec 32) else 1) (if 4096#32 = 0 then 0 else if (4096#32).msb = true then -1 else 1) = 0#1 := by decide
    rw [if_neg (Routing.ofNat32_ne_zero h (by omega)), e]
    simp [IntOp.andi, Scalar.select]

theorem key_at (y : S2x4096.Idx → EReal) (hy : W (Proc.devRef .tc main_v10) = y) (b : Fin 2) (k : Fin 4096)
    (hu : W (Proc.devRef .tc main_v12) (ix1 k) = 0#32) :
    after hostOps0_5 W (Proc.devRef .tc main_v18) (ix2 b k) = y (ix2 b k) := by
  subst hy
  after_reads_at
  rw [hu]
  have e : FloatOps.sitofp (F := Ideal) FTy.f32 0#32 = (0 : EReal) := by
    show (((0#32 : BitVec 32).toInt : ℝ) : EReal) = 0
    simp
  rw [e, zero_mul, zero_add]

theorem keep0 : after hostOps0 W (Proc.devRef .tc main_arg1) = W (Proc.devRef .tc main_arg1) := by
  after_results_simp
theorem keep1 : after hostOps0_1 W (Proc.devRef .tc main_arg1) = W (Proc.devRef .tc main_arg1)
    ∧ after hostOps0_1 W (Proc.devRef .tc main_v4) = W (Proc.devRef .tc main_v4)
    ∧ after hostOps0_1 W (Proc.devRef .tc main_v6) = W (Proc.devRef .tc main_v6)
    ∧ after hostOps0_1 W (Proc.devRef .tc main_v8) = W (Proc.devRef .tc main_v8) := by
  refine ⟨?_, ?_, ?_, ?_⟩ <;> after_results_simp
theorem keep2 : after hostOps0_2 W (Proc.devRef .tc main_arg1) = W (Proc.devRef .tc main_arg1)
    ∧ after hostOps0_2 W (Proc.devRef .tc main_v4) = W (Proc.devRef .tc main_v4)
    ∧ after hostOps0_2 W (Proc.devRef .tc main_v6) = W (Proc.devRef .tc main_v6)
    ∧ after hostOps0_2 W (Proc.devRef .tc main_v8) = W (Proc.devRef .tc main_v8)
    ∧ after hostOps0_2 W (Proc.devRef .tc main_v9) = W (Proc.devRef .tc main_v9) := by
  refine ⟨?_, ?_, ?_, ?_, ?_⟩ <;> after_results_simp
theorem keep3 : after hostOps0_3 W (Proc.devRef .tc main_arg1) = W (Proc.devRef .tc main_arg1)
    ∧ after hostOps0_3 W (Proc.devRef .tc main_v4) = W (Proc.devRef .tc main_v4)
    ∧ after hostOps0_3 W (Proc.devRef .tc main_v6) = W (Proc.devRef .tc main_v6)
    ∧ after hostOps0_3 W (Proc.devRef .tc main_v8) = W (Proc.devRef .tc main_v8)
    ∧ after hostOps0_3 W (Proc.devRef .tc main_v9) = W (Proc.devRef .tc main_v9)
    ∧ after hostOps0_3 W (Proc.devRef .tc main_v10) = W (Proc.devRef .tc main_v10) := by
  refine ⟨?_, ?_, ?_, ?_, ?_, ?_⟩ <;> after_results_simp
theorem keep4 : after hostOps0_4 W (Proc.devRef .tc main_arg1) = W (Proc.devRef .tc main_arg1)
    ∧ after hostOps0_4 W (Proc.devRef .tc main_v4) = W (Proc.devRef .tc main_v4)
    ∧ after hostOps0_4 W (Proc.devRef .tc main_v6) = W (Proc.devRef .tc main_v6)
    ∧ after hostOps0_4 W (Proc.devRef .tc main_v8) = W (Proc.devRef .tc main_v8)
    ∧ after hostOps0_4 W (Proc.devRef .tc main_v9) = W (Proc.devRef .tc main_v9)
    ∧ after hostOps0_4 W (Proc.devRef .tc main_v10) = W (Proc.devRef .tc main_v10) := by
  refine ⟨?_, ?_, ?_, ?_, ?_, ?_⟩ <;> after_results_simp
theorem keep5 : after hostOps0_5 W (Proc.devRef .tc main_arg1) = W (Proc.devRef .tc main_arg1)
    ∧ after hostOps0_5 W (Proc.devRef .tc main_v4) = W (Proc.devRef .tc main_v4)
    ∧ after hostOps0_5 W (Proc.devRef .tc main_v6) = W (Proc.devRef .tc main_v6)
    ∧ after hostOps0_5 W (Proc.devRef .tc main_v8) = W (Proc.devRef .tc main_v8)
    ∧ after hostOps0_5 W (Proc.devRef .tc main_v9) = W (Proc.devRef .tc main_v9) := by
  refine ⟨?_, ?_, ?_, ?_, ?_⟩ <;> after_results_simp
theorem keep6 : after hostOps0_6 W (Proc.devRef .tc main_arg1) = W (Proc.devRef .tc main_arg1)
    ∧ after hostOps0_6 W (Proc.devRef .tc main_v4) = W (Proc.devRef .tc main_v4)
    ∧ after hostOps0_6 W (Proc.devRef .tc main_v6) = W (Proc.devRef .tc main_v6)
    ∧ after hostOps0_6 W (Proc.devRef .tc main_v8) = W (Proc.devRef .tc main_v8)
    ∧ after hostOps0_6 W (Proc.devRef .tc main_v9) = W (Proc.devRef .tc main_v9) := by
  refine ⟨?_, ?_, ?_, ?_, ?_⟩ <;> after_results_simp
theorem keep7 : after hostOps0_7 W (Proc.devRef .tc main_arg1) = W (Proc.devRef .tc main_arg1)
    ∧ after hostOps0_7 W (Proc.devRef .tc main_v4) = W (Proc.devRef .tc main_v4)
    ∧ after hostOps0_7 W (Proc.devRef .tc main_v6) = W (Proc.devRef .tc main_v6)
    ∧ after hostOps0_7 W (Proc.devRef .tc main_v8) = W (Proc.devRef .tc main_v8) := by
  refine ⟨?_, ?_, ?_, ?_⟩ <;> after_results_simp
theorem keep8 : after hostOps0_8 W (Proc.devRef .tc main_arg1) = W (Proc.devRef .tc main_arg1)
    ∧ after hostOps0_8 W (Proc.devRef .tc main_v6) = W (Proc.devRef .tc main_v6)
    ∧ after hostOps0_8 W (Proc.devRef .tc main_v8) = W (Proc.devRef .tc main_v8)
    ∧ after hostOps0_8 W (Proc.devRef .tc main_v20) = W (Proc.devRef .tc main_v20) := by
  refine ⟨?_, ?_, ?_, ?_⟩ <;> after_results_simp
theorem keep9 : after hostOps0_9 W (Proc.devRef .tc main_arg1) = W (Proc.devRef .tc main_arg1)
    ∧ after hostOps0_9 W (Proc.devRef .tc main_v8) = W (Proc.devRef .tc main_v8)
    ∧ after hostOps0_9 W (Proc.devRef .tc main_v20) = W (Proc.devRef .tc main_v20)
    ∧ after hostOps0_9 W (Proc.devRef .tc main_v21) = W (Proc.devRef .tc main_v21) := by
  refine ⟨?_, ?_, ?_, ?_⟩ <;> after_results_simp
theorem keep10 : after hostOps0_10 W (Proc.devRef .tc main_arg1) = W (Proc.devRef .tc main_arg1)
    ∧ after hostOps0_10 W (Proc.devRef .tc main_v20) = W (Proc.devRef .tc main_v20)
    ∧ after hostOps0_10 W (Proc.devRef .tc main_v21) = W (Proc.devRef .tc main_v21)
    ∧ after hostOps0_10 W (Proc.devRef .tc main_v22) = W (Proc.devRef .tc main_v22) := by
  refine ⟨?_, ?_, ?_, ?_⟩ <;> after_results_simp

end Stage

variable (m : (ℓ : Loc nD τ sig) → Buf (Elt Ideal) ℓ) (c : Dev nD)

theorem early_split : early m c = after hostOps0_10 (after hostOps0_9 (after hostOps0_8 (after hostOps0_7 (after hostOps0_6
    (after hostOps0_5 (after hostOps0_4 (after hostOps0_3 (after hostOps0_2 (after hostOps0_1 (after hostOps0 fun b => m (c, b))))))))))) := by
  unfold early
  simp only [← after_append]
  rfl

/-- The points of a row by depth. -/
def byDepth (p : Cloud.Idx → EReal) (b : Fin 2) : Fin 4096 → Fin 4096 := sortedFrom fun k k' => decide (zs p b k < zs p b k')

/-- The positions of that list by the second coordinate. -/
def byHeight (p : Cloud.Idx → EReal) (b : Fin 2) : Fin 4096 → Fin 4096 :=
  sortedFrom fun k k' => decide (ys p b (byDepth p b k) < ys p b (byDepth p b k'))

/-- The points of a row in the order in which the entry code lays them out. -/
def order (p : Cloud.Idx → EReal) (b : Fin 2) (k : Fin 4096) : Fin 4096 := byDepth p b (byHeight p b k)

theorem byDepth_injective (p : Cloud.Idx → EReal) (b : Fin 2) {i j : Fin 4096} (h : byDepth p b i = byDepth p b j) : i = j := by
  unfold byDepth at h
  exact sortedFrom_injective _ h

theorem byHeight_injective (p : Cloud.Idx → EReal) (b : Fin 2) {i j : Fin 4096} (h : byHeight p b i = byHeight p b j) : i = j := by
  unfold byHeight at h
  exact sortedFrom_injective _ h

theorem order_injective (p : Cloud.Idx → EReal) (b : Fin 2) {i j : Fin 4096} (h : order p b i = order p b j) : i = j :=
  byHeight_injective p b (byDepth_injective p b h)

theorem byDepth_surjective (p : Cloud.Idx → EReal) (b : Fin 2) (i : Fin 4096) : ∃ k, byDepth p b k = i := by
  unfold byDepth
  exact sortedFrom_surjective _ i

theorem byHeight_surjective (p : Cloud.Idx → EReal) (b : Fin 2) (i : Fin 4096) : ∃ k, byHeight p b k = i := by
  unfold byHeight
  exact sortedFrom_surjective _ i

theorem order_surjective (p : Cloud.Idx → EReal) (b : Fin 2) (i : Fin 4096) : ∃ k, order p b k = i := by
  obtain ⟨k', h'⟩ := byDepth_surjective p b i
  obtain ⟨k, h⟩ := byHeight_surjective p b k'
  exact ⟨k, (congrArg (byDepth p b) h).trans h'⟩

theorem order_monotone (p : Cloud.Idx → EReal) (b : Fin 2) : Monotone fun k => ys p b (order p b k) :=
  sortedFrom_monotone (fun k => ys p b (byDepth p b k)) _ fun _ _ => rfl

/-- Before the points are laid out, the buffers hold their index words, coordinates and depths in the order `order`. -/
theorem sorted (p : Cloud.Idx → EReal) (hp : m (c, Proc.devRef .tc main_arg0) = p) :
    early m c (Proc.devRef .tc main_arg1) = m (c, Proc.devRef .tc main_arg1) ∧
    (∀ b k, early m c (Proc.devRef .tc main_v20) (ix2 b k) = BitVec.ofNat 32 (order p b k).val) ∧
      (∀ b k, early m c (Proc.devRef .tc main_v21) (ix2 b k) = xs p b (order p b k)) ∧
      (∀ b k, early m c (Proc.devRef .tc main_v22) (ix2 b k) = ys p b (order p b k)) ∧
      (∀ b k, early m c (Proc.devRef .tc main_v23) (ix2 b k) = zs p b (order p b k)) := by
  rw [early_split]
  generalize h0 : after hostOps0 (fun b => m (c, b)) = W0
  have a0 : W0 (Proc.devRef .tc main_arg1) = m (c, Proc.devRef .tc main_arg1) := by rw [← h0]; exact keep0 _
  have x0 : W0 (Proc.devRef .tc main_v4) = fun j => xs p (j 0) (j 1) := by
    funext j; rw [← h0, eq_ix2 j]; exact (coords_at _ p hp _ _).1
  have y0 : W0 (Proc.devRef .tc main_v6) = fun j => ys p (j 0) (j 1) := by
    funext j; rw [← h0, eq_ix2 j]; exact (coords_at _ p hp _ _).2.1
  have z0 : W0 (Proc.devRef .tc main_v8) = fun j => zs p (j 0) (j 1) := by
    funext j; rw [← h0, eq_ix2 j]; exact (coords_at _ p hp _ _).2.2
  clear h0
  generalize h1 : after hostOps0_1 W0 = W1
  have q1 : ∀ b k, W1 (Proc.devRef .tc main_v9) (ix2 b k) = BitVec.ofNat 32 (byDepth p b k).val := fun b k => by rw [← h1]; exact sort1_at W0 _ z0 b k
  obtain ⟨ka, k4, k6, k8⟩ := keep1 W0
  rw [h1] at ka k4 k6 k8
  rw [a0] at ka; rw [x0] at k4; rw [y0] at k6; rw [z0] at k8
  clear h1 a0 x0 y0 z0
  generalize h2 : after hostOps0_2 W1 = W2
  have t2 : ∀ b k, W2 (Proc.devRef .tc main_v10) (ix2 b k) = ys p b (byDepth p b k) := fun b k => by
    rw [← h2]; exact take1_at W1 _ rfl _ k6 b k _ (q1 b k)
  obtain ⟨a2, x2, y2, z2, q2⟩ := keep2 W1
  rw [h2] at a2 x2 y2 z2 q2
  rw [ka] at a2; rw [k4] at x2; rw [k6] at y2; rw [k8] at z2
  have q2' : ∀ b k, W2 (Proc.devRef .tc main_v9) (ix2 b k) = BitVec.ofNat 32 (byDepth p b k).val := fun b k => by rw [q2]; exact q1 b k
  clear h2 ka k4 k6 k8 q1 q2
  generalize h3 : after hostOps0_3 W2 = W3
  have i3 := iota_at W2
  obtain ⟨a3, x3, y3, z3, q3, t3⟩ := keep3 W2
  rw [h3] at a3 x3 y3 z3 q3 t3 i3
  rw [a2] at a3; rw [x2] at x3; rw [y2] at y3; rw [z2] at z3
  clear h3 a2 x2 y2 z2
  generalize h4 : after hostOps0_4 W3 = W4
  have i4 := fun k => bucket_at W3 k (i3 k).1 (i3 k).2
  obtain ⟨a4, x4, y4, z4, q4, t4⟩ := keep4 W3
  rw [h4] at a4 x4 y4 z4 q4 t4 i4
  rw [a3] at a4; rw [x3] at x4; rw [y3] at y4; rw [z3] at z4; rw [q3] at q4; rw [t3] at t4
  clear h4 a3 x3 y3 z3 q3 t3
  generalize h5 : after hostOps0_5 W4 = W5
  have v5 : W5 (Proc.devRef .tc main_v18) = fun j => ys p (j 0) (byDepth p (j 0) (j 1)) := by
    funext j
    rw [← h5, eq_ix2 j]
    exact (key_at W4 _ t4 _ _ (i4 _)).trans (t2 _ _)
  obtain ⟨a5, x5, y5, z5, q5⟩ := keep5 W4
  rw [h5] at a5 x5 y5 z5 q5
  rw [a4] at a5; rw [x4] at x5; rw [y4] at y5; rw [z4] at z5; rw [q4] at q5
  clear h5 a4 x4 y4 z4 q4 t4 i4
  generalize h6 : after hostOps0_6 W5 = W6
  have s6 : ∀ b k, W6 (Proc.devRef .tc main_v19) (ix2 b k) = BitVec.ofNat 32 (byHeight p b k).val := fun b k => by
    rw [← h6]; exact sort2_at' W5 _ v5 b k
  obtain ⟨a6, x6, y6, z6, q6⟩ := keep6 W5
  rw [h6] at a6 x6 y6 z6 q6
  rw [a5] at a6; rw [x5] at x6; rw [y5] at y6; rw [z5] at z6; rw [q5] at q6
  clear h6 a5 x5 y5 z5 q5 v5
  generalize h7 : after hostOps0_7 W6 = W7
  have u7 : ∀ b k, W7 (Proc.devRef .tc main_v20) (ix2 b k) = BitVec.ofNat 32 (order p b k).val := fun b k => by
    rw [← h7]; exact (take4_at W6 _ rfl _ q6 b k _ (s6 b k)).trans (q2' _ _)
  obtain ⟨a7, x7, y7, z7⟩ := keep7 W6
  rw [h7] at a7 x7 y7 z7
  rw [a6] at a7; rw [x6] at x7; rw [y6] at y7; rw [z6] at z7
  clear h7 a6 x6 y6 z6 q6
  generalize h8 : after hostOps0_8 W7 = W8
  have X8 : ∀ b k, W8 (Proc.devRef .tc main_v21) (ix2 b k) = xs p b (order p b k) := fun b k => by
    rw [← h8]; exact take5_at W7 _ rfl _ x7 b k _ (u7 b k)
  obtain ⟨a8, y8, z8, u8⟩ := keep8 W7
  rw [h8] at a8 y8 z8 u8
  rw [a7] at a8; rw [y7] at y8; rw [z7] at z8
  have u8' : ∀ b k, W8 (Proc.devRef .tc main_v20) (ix2 b k) = BitVec.ofNat 32 (order p b k).val := fun b k => by rw [u8]; exact u7 b k
  clear h8 a7 x7 y7 z7 u7 u8
  generalize h9 : after hostOps0_9 W8 = W9
  have Y9 : ∀ b k, W9 (Proc.devRef .tc main_v22) (ix2 b k) = ys p b (order p b k) := fun b k => by
    rw [← h9]; exact take6_at W8 _ rfl _ y8 b k _ (u8' b k)
  obtain ⟨a9, z9, u9, X9⟩ := keep9 W8
  rw [h9] at a9 z9 u9 X9
  rw [a8] at a9; rw [z8] at z9
  have u9' : ∀ b k, W9 (Proc.devRef .tc main_v20) (ix2 b k) = BitVec.ofNat 32 (order p b k).val := fun b k => by rw [u9]; exact u8' b k
  obtain ⟨a, u, X, Y⟩ := keep10 W9
  refine ⟨a.trans a9, fun b k => ?_, fun b k => ?_, fun b k => ?_, fun b k => ?_⟩
  · rw [u]; exact u9' b k
  · rw [X, X9]; exact X8 b k
  · rw [Y]; exact Y9 b k
  · exact take7_at W9 _ rfl _ z9 b k _ (u9' b k)

end Cert.KernelIdeal.Layout
-- ==== Proof.Rows.lean ====
module

public import proofs.«01_k».proof.Proof.Layout

/-!
The arrays the kernel loads: each row of points in sorted order, followed by padding points that lie far from every pixel.
-/

@[expose] public section
noncomputable section
namespace Cert.KernelIdeal.Layout
open Cert.KernelIdeal Cert.KernelIdeal.Gen Cert.KernelIdeal.Starts Cert.Blend Idealize.ShloMosaic Idealize.ShloMosaic.TcCoe Idealize.ShloMosaic.StableHlo
open Cert.ReferenceIdeal.Ref (slt_zero sge_zero sle_last)

section Stage
variable (W : Valuation τ sig (Elt Ideal))

/-- Where the padding points lie. -/
def far : EReal := Ideal.ofBits FTy.f32 1315859240#32

/-- A row of values followed by a fill value. -/
def padded {α : Type} (x : Fin 4096 → α) (fill : α) (r : Fin 4952) : α := if h : r.val < 4096 then x ⟨r.val, h⟩ else fill

theorem padded_eq {α : Type} {x : Fin 4096 → α} {fill v : α} {r : Fin 4952} (h : ∀ h : r.val < 4096, v = x ⟨r.val, h⟩)
    (h' : ¬ r.val < 4096 → v = fill) : v = padded x fill r := by
  unfold padded
  split
  · exact h _
  · exact h' ‹_›

theorem v54_at0 (x : S2x4096.Idx → EReal) (hx : W (Proc.devRef .tc main_v21) = x) (b : Fin 2) (r : Fin 4952) :
    after hostOps0_11 W (Proc.devRef .tc main_v54) (ix3 b r 0) = padded (α := EReal) (fun k => x (ix2 b k)) far r := by
  subst hx
  after_reads_at
  after_reads_at
  refine padded_eq (fun h => ?_) (fun h => ?_)
  · rw [dif_pos (by omega)]
    after_reads_at
    rw [dif_pos h]
    after_reads_at
  · by_cases h2 : r.val < 4440
    · rw [dif_pos h2]
      after_reads_at
      rw [dif_neg h]
      after_reads_at
      rfl
    · rw [dif_neg h2]
      after_reads_at
      rfl

theorem v54_at1 (x : S2x4096.Idx → EReal) (hx : W (Proc.devRef .tc main_v22) = x) (b : Fin 2) (r : Fin 4952) :
    after hostOps0_11 W (Proc.devRef .tc main_v54) (ix3 b r 1) = padded (α := EReal) (fun k => x (ix2 b k)) far r := by
  subst hx
  after_reads_at
  after_reads_at
  refine padded_eq (fun h => ?_) (fun h => ?_)
  · rw [dif_pos (by omega)]
    after_reads_at
    rw [dif_pos h]
    after_reads_at
  · by_cases h2 : r.val < 4440
    · rw [dif_pos h2]
      after_reads_at
      rw [dif_neg h]
      after_reads_at
      rfl
    · rw [dif_neg h2]
      after_reads_at
      rfl

theorem v54_at2 (x : S2x4096.Idx → EReal) (hx : W (Proc.devRef .tc main_v23) = x) (b : Fin 2) (r : Fin 4952) :
    after hostOps0_11 W (Proc.devRef .tc main_v54) (ix3 b r 2) = padded (α := EReal) (fun k => x (ix2 b k)) 1 r := by
  subst hx
  after_reads_at
  after_reads_at
  refine padded_eq (fun h => ?_) (fun h => ?_)
  · rw [dif_pos (by omega)]
    after_reads_at
    rw [dif_pos h]
    after_reads_at
  · by_cases h2 : r.val < 4440
    · rw [dif_pos h2]
      after_reads_at
      rw [dif_neg h]
      after_reads_at
    · rw [dif_neg h2]
      after_reads_at

theorem v53_at2 (x : S2x4096.Idx → EReal) (hx : W (Proc.devRef .tc main_v23) = x) (b : Fin 2) (r : Fin 4952) :
    after hostOps0_11 W (Proc.devRef .tc main_v53) (ix3 b 2 r) = padded (α := EReal) (fun k => x (ix2 b k)) 1 r := by
  subst hx
  after_reads_at
  after_reads_at
  refine padded_eq (fun h => ?_) (fun h => ?_)
  · rw [dif_pos (by omega)]
    after_reads_at
    rw [dif_pos h]
    after_reads_at
  · by_cases h2 : r.val < 4440
    · rw [dif_pos h2]
      after_reads_at
      rw [dif_neg h]
      after_reads_at
    · rw [dif_neg h2]
      after_reads_at

theorem v54_at3 (u : IVec S2x4096 32) (hu : W (Proc.devRef .tc main_v20) = u) (b : Fin 2) (r : Fin 4952) :
    after hostOps0_11 W (Proc.devRef .tc main_v54) (ix3 b r 3)
      = padded (α := EReal) (fun k => FloatOps.sitofp (F := Ideal) .f32 (u (ix2 b k))) 0 r := by
  subst hu
  after_reads_at
  after_reads_at
  refine padded_eq (fun h => ?_) (fun h => ?_)
  · rw [dif_pos (by omega)]
    after_reads_at
    rw [dif_pos h]
    after_reads_at
  · by_cases h2 : r.val < 4440
    · rw [dif_pos h2]
      after_reads_at
      rw [dif_neg h]
      after_reads_at
    · rw [dif_neg h2]
      after_reads_at

theorem v53_at3 (u : IVec S2x4096 32) (hu : W (Proc.devRef .tc main_v20) = u) (b : Fin 2) (r : Fin 4952) :
    after hostOps0_11 W (Proc.devRef .tc main_v53) (ix3 b 3 r)
      = padded (α := EReal) (fun k => FloatOps.sitofp (F := Ideal) .f32 (u (ix2 b k))) 0 r := by
  subst hu
  after_reads_at
  after_reads_at
  refine padded_eq (fun h => ?_) (fun h => ?_)
  · rw [dif_pos (by omega)]
    after_reads_at
    rw [dif_pos h]
    after_reads_at
  · by_cases h2 : r.val < 4440
    · rw [dif_pos h2]
      after_reads_at
      rw [dif_neg h]
      after_reads_at
    · rw [dif_neg h2]
      after_reads_at

theorem keep12 : after hostOps0_12 W (Proc.devRef .tc main_v53) = W (Proc.devRef .tc main_v53)
    ∧ after hostOps0_12 W (Proc.devRef .tc main_v54) = W (Proc.devRef .tc main_v54)
    ∧ after hostOps0_12 W (Proc.devRef .tc main_v76) = W (Proc.devRef .tc main_v76) := by
  refine ⟨?_, ?_, ?_⟩ <;> after_results_simp

theorem keep13 : after hostOps0_13 W (Proc.devRef .tc main_v53) = W (Proc.devRef .tc main_v53)
    ∧ after hostOps0_13 W (Proc.devRef .tc main_v54) = W (Proc.devRef .tc main_v54)
    ∧ after hostOps0_13 W (Proc.devRef .tc main_v76) = W (Proc.devRef .tc main_v76) := by
  refine ⟨?_, ?_, ?_⟩ <;> after_results_simp

/-- The place of point `k` of row `b` in the list of all rows' points. -/
def spot (b : Fin 2) (k : Fin 4096) : Fin 8192 := ⟨b.val * 4096 + k.val, by omega⟩

theorem flat_words (w : IVec S2x4096 32) (h : S2x4096.ShapeCasts S8192) (b : Fin 2) (k : Fin 4096) :
    shapeCast S8192 w h (ix1 (spot b k)) = w (ix2 b k) := by
  refine shapeCast_apply _ _ _ _ ?_
  rw [Shape.rowMajor_val_one, Shape.rowMajor_val_two]
  rfl

theorem flat_feats (f : S2x4096x64.Idx → EReal) (h : S2x4096x64.ShapeCasts S8192x64) (b : Fin 2) (k : Fin 4096) (ch : Fin 64) :
    shapeCast S8192x64 f h (ix2 (spot b k) ch) = f (ix3 b k ch) := by
  refine shapeCast_apply _ _ _ _ ?_
  rw [Shape.rowMajor_val_three, Shape.rowMajor_val_two]
  rfl

theorem rows_feats (f : S8192x64.Idx → EReal) (h : S8192x64.ShapeCasts S2x4096x64) (b : Fin 2) (k : Fin 4096) (ch : Fin 64) :
    shapeCast S2x4096x64 f h (ix3 b k ch) = f (ix2 (spot b k) ch) := by
  refine shapeCast_apply _ _ _ _ ?_
  rw [Shape.rowMajor_val_three, Shape.rowMajor_val_two]
  rfl

theorem unit_feats (f : S2x4096x64.Idx → EReal) (h : S2x4096x64.ShapeCasts S2x1x4096x64) (b : Fin 2) (k : Fin 4096) (ch : Fin 64) :
    shapeCast S2x1x4096x64 f h (ix4 b 0 k ch) = f (ix3 b k ch) := by
  refine shapeCast_apply _ _ _ _ ?_
  rw [Shape.rowMajor_val_three, Shape.rowMajor_val_four]
  show (b.val * 4096 + k.val) * 64 + ch.val = ((b.val * 1 + 0) * 4096 + k.val) * 64 + ch.val
  omega

/-- The feature gather reads the feature row its index word names. -/
theorem gather_wide (x : S8192x64.Idx → EReal) (idx : IVec S8192x1 32) (n : Fin 8192) (ch : Fin 64) (i : Fin 8192)
    (hi : idx (ix2 n 0) = BitVec.ofNat 32 i.val) :
    Host.gather gather_S8192x64_S8192x1_S8192x64_1_0_n_n_0_1_164 x idx (ix2 n ch) = x (ix2 i ch) := by
  refine congrArg x (funext fun a => Fin.ext ?_)
  have hn : (BitVec.ofNat 32 i.val).toInt.toNat = i.val := by
    rw [BitVec.toInt_eq_toNat_cond, BitVec.toNat_ofNat]
    have := i.isLt
    omega
  fin_cases a
  · show min (idx (gather_S8192x64_S8192x1_S8192x64_1_0_n_n_0_1_164.siIdx (ix2 n ch) ⟨0, _⟩)).toInt.toNat 8191 = i.val
    have e : gather_S8192x64_S8192x1_S8192x64_1_0_n_n_0_1_164.siIdx (ix2 n ch) ⟨0, by decide⟩ = ix2 n 0 := by
      funext q
      fin_cases q <;> rfl
    rw [e, hi, hn]
    have := i.isLt
    omega
  · show 0 + 0 + ch.val = ch.val
    omega

/-- An index word that names a feature row is not wrapped. -/
theorem unwrapped (w : IVec S8192 32) (n i : Fin 8192) (hw : w (ix1 n) = BitVec.ofNat 32 i.val) :
    broadcastInDim S8192x1 ![0] bcast_S8192_S8192x1_0
      (select (cmpi .slt w (broadcastInDim S8192 ![] bcast_S_S8192 (constantI S_ 32 0#32)))
        (addi w (broadcastInDim S8192 ![] bcast_S_S8192 (constantI S_ 32 8192#32))) w) (ix2 n 0) = BitVec.ofNat 32 i.val := by
  clean_types
  pointwise
  rw [hw]
  have e : IntOp.cmpi .slt (BitVec.ofNat 32 i.val) 0#32 = BitVec.ofBool (decide False) := by
    have := i.isLt
    word_cmp
    simp
  rw [e, select_flag, if_neg not_false]

theorem row_word (u : IVec S2x4096 32) (b : Fin 2) (k i : Fin 4096) (hu : u (ix2 b k) = BitVec.ofNat 32 i.val) :
    addi u (broadcastInDim S2x4096 ![0, 1] bcast_S2x1_S2x4096_0_1 (broadcastInDim S2x1 ![0] bcast_S2_S2x1_0
      (muli (iotaInDim S2 32 0) (broadcastInDim S2 ![] bcast_S_S2 (constantI S_ 32 4096#32))))) (ix2 b k)
      = BitVec.ofNat 32 (spot b i).val := by
  clean_types
  pointwise
  rw [hu]
  show BitVec.ofNat 32 i.val + BitVec.ofNat 32 b.val * BitVec.ofNat 32 4096 = BitVec.ofNat 32 (b.val * 4096 + i.val)
  rw [BitVec.ofNat_add, BitVec.ofNat_mul, BitVec.add_comm]

set_option maxRecDepth 100000 in
theorem v76_at (u : IVec S2x4096 32) (hu : W (Proc.devRef .tc main_v20) = u) (f : S2x4096x64.Idx → EReal)
    (hf : W (Proc.devRef .tc main_arg1) = f) (σ : Fin 2 → Fin 4096 → Fin 4096) (hσ : ∀ b k, u (ix2 b k) = BitVec.ofNat 32 (σ b k).val)
    (b : Fin 2) (r : Fin 4952) (q : Fin 64) :
    after hostOps0_11 W (Proc.devRef .tc main_v76) (ix3 b r q) = padded (α := EReal) (fun k => f (ix3 b (σ b k) q)) 0 r := by
  subst hu hf
  after_reads_at
  refine padded_eq (fun h => ?_) (fun h => ?_)
  · rw [dif_pos (by omega), dif_pos h]
    after_reads_simp
    refine (unit_feats _ _ b ⟨r.val, h⟩ q).trans ((rows_feats _ _ b ⟨r.val, h⟩ q).trans
      ((gather_wide _ _ _ _ (spot b (σ b ⟨r.val, h⟩)) ?_).trans (flat_feats _ _ b _ q)))
    exact unwrapped _ _ _ ((flat_words _ _ b _).trans (row_word _ b _ _ (hσ b _)))
  · by_cases h2 : r.val < 4440
    · rw [dif_pos h2, dif_neg h]
      after_reads_at
    · rw [dif_neg h2]
end Stage

/-- A point's index as a number. -/
def index (i : Fin 4096) : EReal := FloatOps.sitofp (F := Ideal) .f32 (BitVec.ofNat 32 i.val)

theorem index_eq (i : Fin 4096) : index i = ((i.val : ℝ) : EReal) := by
  show (((BitVec.ofNat 32 i.val).toInt : ℝ) : EReal) = _
  have h : (BitVec.ofNat 32 i.val).toInt = (i.val : ℤ) := by
    rw [BitVec.toInt_eq_toNat_cond, BitVec.toNat_ofNat]
    have := i.isLt
    omega
  rw [h, Int.cast_natCast]

theorem index_lt (i j : Fin 4096) : index i < index j ↔ i < j := by
  rw [index_eq, index_eq, EReal.coe_lt_coe_iff, Nat.cast_lt, Fin.lt_def]

variable (m : (ℓ : Loc nD τ sig) → Buf (Elt Ideal) ℓ) (c : Dev nD) (p : Cloud.Idx → EReal) (hp : m (c, Proc.devRef .tc main_arg0) = p)
variable (f : S2x4096x64.Idx → EReal) (hf : m (c, Proc.devRef .tc main_arg1) = f)

include hp in
/-- The array the kernel loads rows of: the points in sorted order, then padding. -/
theorem rows_at (b : Fin 2) (r : Fin 4952) :
    Arr.rows m c (ix3 b r 0) = padded (fun k => xs p b (order p b k)) far r ∧
    Arr.rows m c (ix3 b r 1) = padded (fun k => ys p b (order p b k)) far r ∧
    Arr.rows m c (ix3 b r 2) = padded (fun k => zs p b (order p b k)) 1 r ∧
    Arr.rows m c (ix3 b r 3) = padded (fun k => index (order p b k)) 0 r := by
  obtain ⟨-, hu, hx, hy, hz⟩ := sorted m c p hp
  have e : Arr.rows m c = after hostOps0_11 (early m c) (Proc.devRef .tc main_v54) := by
    show V0 m c (Proc.devRef .tc main_v54) = _
    rw [entry_split, (keep13 _).2.1, (keep12 _).2.1]
    rfl
  rw [e]
  refine ⟨(v54_at0 _ _ rfl b r).trans ?_, (v54_at1 _ _ rfl b r).trans ?_, (v54_at2 _ _ rfl b r).trans ?_, (v54_at3 _ _ rfl b r).trans ?_⟩
  · simp only [hx]
  · simp only [hy]
  · simp only [hz]
  · simp only [hu]
    rfl

include hp in
/-- The same array's depths and indices, along the other axis. -/
theorem lanes_at (b : Fin 2) (r : Fin 4952) :
    Arr.lanes m c (ix3 b 2 r) = padded (fun k => zs p b (order p b k)) 1 r ∧
    Arr.lanes m c (ix3 b 3 r) = padded (fun k => index (order p b k)) 0 r := by
  obtain ⟨-, hu, hx, hy, hz⟩ := sorted m c p hp
  have e : Arr.lanes m c = after hostOps0_11 (early m c) (Proc.devRef .tc main_v53) := by
    show V0 m c (Proc.devRef .tc main_v53) = _
    rw [entry_split, (keep13 _).1, (keep12 _).1]
    rfl
  rw [e]
  refine ⟨(v53_at2 _ _ rfl b r).trans ?_, (v53_at3 _ _ rfl b r).trans ?_⟩
  · simp only [hz]
  · simp only [hu]
    rfl

include hp hf in
/-- The features in the same order. -/
theorem feats_at (b : Fin 2) (r : Fin 4952) (q : Fin 64) :
    Arr.feats m c (ix3 b r q) = padded (fun k => f (ix3 b (order p b k) q)) 0 r := by
  obtain ⟨ha, hu, -⟩ := sorted m c p hp
  have e : Arr.feats m c = after hostOps0_11 (early m c) (Proc.devRef .tc main_v76) := by
    show V0 m c (Proc.devRef .tc main_v76) = _
    rw [entry_split, (keep13 _).2.2, (keep12 _).2.2]
    rfl
  rw [e]
  exact v76_at _ _ rfl f (ha.trans hf) (order p) hu b r q

end Cert.KernelIdeal.Layout
-- ==== Proof.Crowd.lean ====
module

public import proofs.«01_k».proof.Proof.Rank
public import proofs.«01_k».proof.Proof.Ref
public import Idealize.ShloMosaic.Lib.Pointwise
public import Idealize.ShloMosaic.Lib.IndicatorCount
public import Idealize.ShloMosaic.Lib.Tactic.CleanTypes
public import Idealize.ShloMosaic.Lib.WordCmp

/-!
What the precondition says: every depth is positive and finite, and the points within reach of a band of pixel rows are few.
-/

@[expose] public section
noncomputable section
namespace Cert.Crowd
open Cert.Pre_crowd_fits Cert.Blend Idealize.ShloMosaic

/-! ## The strip of one band -/

/-- How far a point's reach exceeds the band, with the slack of the entry code. -/
def reach : ℝ := 12583449 / 536870912

theorem reach_eq : Ideal.ofBits FTy.f32 1019216409#32 = ((reach : ℝ) : EReal) := by
  unfold reach
  simp [Ideal.ofBits, Ideal.ieee, -EReal.coe_mul]; norm_num

theorem two_eq : Ideal.ofBits FTy.f32 1073741824#32 = ((2 : ℝ) : EReal) := by
  simp [Ideal.ofBits, Ideal.ieee, -EReal.coe_mul]; norm_num
theorem three_eq : Ideal.ofBits FTy.f32 1077936128#32 = ((3 : ℝ) : EReal) := by
  simp [Ideal.ofBits, Ideal.ieee, -EReal.coe_mul]; norm_num
theorem four_eq : Ideal.ofBits FTy.f32 1082130432#32 = ((4 : ℝ) : EReal) := by
  simp [Ideal.ofBits, Ideal.ieee, -EReal.coe_mul]; norm_num
theorem size_eq : Ideal.ofBits FTy.f32 1124073472#32 = ((128 : ℝ) : EReal) := by
  simp [Ideal.ofBits, Ideal.ieee, -EReal.coe_mul]; norm_num
theorem band_eq (t : Fin 32) : FloatOps.sitofp (F := Ideal) FTy.f32 (BitVec.ofNat 32 t.val) = ((t.val : ℝ) : EReal) := by
  show (((BitVec.ofNat 32 t.val).toInt : ℝ) : EReal) = _
  have : (BitVec.ofNat 32 t.val).toInt = t.val := by
    rw [BitVec.toInt_eq_toNat_cond, BitVec.toNat_ofNat]
    have := t.isLt
    omega
  rw [this]
  norm_cast

theorem div_size (x : ℝ) : Ideal.div (x : EReal) ((128 : ℝ) : EReal) = ((x / 128 : ℝ) : EReal) := by
  unfold Ideal.div
  rw [if_neg (by norm_num), ← EReal.coe_inv, ← EReal.coe_mul, div_eq_mul_inv]

/-- The lower edge of a band's strip. -/
def low (t : Fin 32) : ℝ := 1 - (2 * (t.val * 4 + 3) + 1) / 128 - reach

/-- The upper edge of a band's strip. -/
def high (t : Fin 32) : ℝ := 1 - (2 * (t.val * 4) + 1) / 128 + reach

theorem low_eq (t : Fin 32) :
    (1 - Ideal.div (Ideal.ofBits FTy.f32 1073741824#32 * (FloatOps.sitofp (F := Ideal) FTy.f32 (BitVec.ofNat 32 t.val) * Ideal.ofBits FTy.f32 1082130432#32
        + Ideal.ofBits FTy.f32 1077936128#32) + 1) (Ideal.ofBits FTy.f32 1124073472#32) - Ideal.ofBits FTy.f32 1019216409#32 : EReal)
      = ((low t : ℝ) : EReal) := by
  rw [band_eq, two_eq, three_eq, four_eq, size_eq, reach_eq, ← EReal.coe_one, ← EReal.coe_mul, ← EReal.coe_add, ← EReal.coe_mul,
    ← EReal.coe_add, div_size, ← EReal.coe_sub, ← EReal.coe_sub]
  rfl

theorem high_eq (t : Fin 32) :
    (1 - Ideal.div (Ideal.ofBits FTy.f32 1073741824#32 * (FloatOps.sitofp (F := Ideal) FTy.f32 (BitVec.ofNat 32 t.val) * Ideal.ofBits FTy.f32 1082130432#32)
        + 1) (Ideal.ofBits FTy.f32 1124073472#32) + Ideal.ofBits FTy.f32 1019216409#32 : EReal)
      = ((high t : ℝ) : EReal) := by
  rw [band_eq, two_eq, four_eq, size_eq, reach_eq, ← EReal.coe_one, ← EReal.coe_mul, ← EReal.coe_mul,
    ← EReal.coe_add, div_size, ← EReal.coe_sub, ← EReal.coe_add]
  rfl

/-- A point near a pixel has a real second coordinate that differs from the pixel's by at most the radius. -/
theorem near_height {x y q : EReal} {c : ℝ} (h : dist2 x y q c ≤ radius2) : ∃ v : ℝ, y = v ∧ c - 3 / 128 ≤ v ∧ v ≤ c + 3 / 128 := by
  have h' : (y - c) * (y - c) ≤ ((9 / 16384 : ℝ) : EReal) := by
    rw [← radius2_eq]
    exact (le_add_of_nonneg_left (square_nonneg _)).trans h
  induction y with
  | bot => exact absurd h' (by simp)
  | top => exact absurd h' (by simp)
  | coe v =>
    refine ⟨v, rfl, ?_⟩
    have h'' : (v - c) * (v - c) ≤ 9 / 16384 := by exact_mod_cast h'
    constructor <;> nlinarith

/-- A point near a pixel lies in the strip of the pixel's band. -/
theorem near_strip {x y q : EReal} {n : ℕ} (hn : n < 128) (t : Fin 32) (ht : n / 4 = t.val) (h : dist2 x y q (center n) ≤ radius2) :
    ((low t : ℝ) : EReal) ≤ y ∧ y ≤ ((high t : ℝ) : EReal) := by
  rw [center_eq hn] at h
  obtain ⟨v, rfl, h1, h2⟩ := near_height h
  have a : (t.val * 4 : ℝ) ≤ n := by
    have : t.val * 4 ≤ n := by omega
    exact_mod_cast this
  have b : (n : ℝ) ≤ t.val * 4 + 3 := by
    have : n ≤ t.val * 4 + 3 := by omega
    exact_mod_cast this
  refine ⟨EReal.coe_le_coe_iff.mpr ?_, EReal.coe_le_coe_iff.mpr ?_⟩
  · unfold low reach
    linarith
  · unfold high reach
    linarith

/-- A point whose second coordinate is a billion is near no pixel. -/
theorem not_near {x q : EReal} {n : ℕ} (hn : n < 128) : ¬ dist2 x (Ideal.ofBits FTy.f32 1315859240#32) q (center n) ≤ radius2 := by
  intro h
  have e : Ideal.ofBits FTy.f32 1315859240#32 = ((1000000000 : ℝ) : EReal) := by
    simp [Ideal.ofBits, Ideal.ieee, -EReal.coe_mul]; norm_num
  rw [e, center_eq hn] at h
  obtain ⟨v, hv, h1, h2⟩ := near_height h
  rw [← EReal.coe_eq_coe_iff.mp hv] at h2
  have : (0 : ℝ) ≤ n := Nat.cast_nonneg n
  linarith

/-! ## The precondition -/

variable [Cert.Pre_crowd_fits.Facts] (p : Cloud.Idx → EReal) (f : S2x4096x64.Idx → EReal)

theorem both {p q : Prop} [Decidable p] [Decidable q] : IntOp.andi (BitVec.ofBool (decide p)) (BitVec.ofBool (decide q)) = 1#1 ↔ p ∧ q := by
  by_cases hp : p <;> by_cases hq : q <;> simp [hp, hq, IntOp.andi]

theorem ys_eq (b : Fin 2) (i : Fin 4096) : ys p b i = - p (ix3 b i 1) := by
  have e : Ideal.ofBits FTy.f32 0xBF800000#32 = ((-1 : ℝ) : EReal) := by
    simp [Ideal.ofBits, Ideal.ieee, -EReal.coe_mul]; norm_num
  unfold ys
  rw [e]
  simp

/-- Every depth is positive and finite. -/
theorem depth_at (h : (Cert.Pre_crowd_fits.fn (F := Ideal) p f).2 = fun _ => 1#1) (b : Fin 2) (i : Fin 4096) :
    0 < zs p b i ∧ zs p b i < ⊤ := by
  have h' := congrFun h (ix2 b i)
  revert h'
  unfold Cert.Pre_crowd_fits.fn Cert.Pre_crowd_fits.fn_part1 Cert.Pre_crowd_fits.fn_part2
  clean_types
  pointwise
  have e : Ideal.ofBits FTy.f32 2139095040#32 = ⊤ := by simp [Ideal.ofBits, Ideal.ieee]
  rw [e, both]
  exact id

open Classical in
/-- The points of a row in a band's strip. -/
def strip (b : Fin 2) (t : Fin 32) : Finset (Fin 4096) :=
  Finset.univ.filter fun i => ((low t : ℝ) : EReal) ≤ ys p b i ∧ ys p b i ≤ ((high t : ℝ) : EReal)

/-- The strip of a band holds at most 337 points. -/
theorem strip_at (h : (Cert.Pre_crowd_fits.fn (F := Ideal) p f).1 = fun _ => 1#1) (b : Fin 2) (t : Fin 32) :
    (strip p b t).card ≤ 337 := by
  have h' := congrFun h (ix2 b t)
  revert h'
  unfold Cert.Pre_crowd_fits.fn Cert.Pre_crowd_fits.fn_part1 Cert.Pre_crowd_fits.fn_part2
  clean_types
  pointwise
  rw [IndicatorCount.fold_addi_setWidth_eq_card]
  have e : ∀ q : Fin 4096 → BitVec 1, (∀ i, q i = 1#1 ↔ i ∈ strip p b t) → (Finset.univ.filter fun i => q i = 1#1) = strip p b t :=
    fun q hq => by
      ext i
      simp [hq]
  rw [e _ fun i => ?_]
  swap
  · refine both.trans ?_
    rw [low_eq, high_eq, ← ys_eq]
    simp [strip]
  intro h'
  have hc : (strip p b t).card ≤ 4096 := (Finset.card_le_univ _).trans (by simp)
  generalize (strip p b t).card = n at h' hc ⊢
  by_contra hn
  have e' : IntOp.cmpi .sle (BitVec.ofNat 32 n) 337#32 = BitVec.ofBool (decide (n ≤ 337)) := by
    word_cmp
  rw [e', decide_eq_false hn] at h'
  exact absurd h' (by decide)
end Cert.Crowd
-- ==== Proof.Match.lean ====
module

public import proofs.«01_k».proof.Proof.Rows
public import proofs.«01_k».proof.Proof.Crowd

/-!
What the kernel leaves at a pixel is the blend over the whole cloud: the window of rows it loads holds every point near the
pixel, and the window's order of depth and index is the cloud's.
-/

@[expose] public section
noncomputable section
namespace Cert.KernelIdeal.Match
open Cert.KernelIdeal Cert.KernelIdeal.Gen Cert.KernelIdeal.Starts Cert.KernelIdeal.Layout Cert.Blend Cert.Crowd
open Idealize.ShloMosaic Idealize.ShloMosaic.TcCoe

open Classical in
/-- Along a list that never falls, the entries below an edge are the first ones. -/
theorem below_iff {N : ℕ} (y : Fin N → EReal) (hy : Monotone y) (e : EReal) (r : Fin N) :
    y r < e ↔ r.val < (Finset.univ.filter fun k => y k < e).card := by
  constructor
  · intro h
    have hs : Finset.Iic r ⊆ Finset.univ.filter fun k => y k < e := fun k hk =>
      Finset.mem_filter.mpr ⟨Finset.mem_univ _, (hy (Finset.mem_Iic.mp hk)).trans_lt h⟩
    have := Finset.card_le_card hs
    rw [Fin.card_Iic] at this
    omega
  · intro h
    by_contra hn
    have hs : (Finset.univ.filter fun k => y k < e) ⊆ Finset.Iio r := fun k hk => by
      refine Finset.mem_Iio.mpr (lt_of_not_ge fun hk' => hn ?_)
      exact (hy hk').trans_lt (Finset.mem_filter.mp hk).2
    have := Finset.card_le_card hs
    rw [Fin.card_Iio] at this
    omega

theorem lowEdge_eq (t : Fin 32) : (lowEdge t : Ideal .f32) = ((low t : ℝ) : EReal) := by
  show (Ideal.ofBits FTy.f32 1065353216#32 - Ideal.div (Ideal.ofBits FTy.f32 1073741824#32
      * (FloatOps.sitofp (F := Ideal) FTy.f32 (BitVec.ofNat 32 t.val) * Ideal.ofBits FTy.f32 1082130432#32 + Ideal.ofBits FTy.f32 1082130432#32
        - Ideal.ofBits FTy.f32 1065353216#32) + Ideal.ofBits FTy.f32 1065353216#32) (Ideal.ofBits FTy.f32 1124073472#32)
      - Ideal.ofBits FTy.f32 1019216409#32 : EReal) = _
  rw [show Ideal.ofBits FTy.f32 1065353216#32 = ((1 : ℝ) : EReal) from Ideal.ofBits_one_f32, band_eq, two_eq, four_eq, size_eq, reach_eq,
    ← EReal.coe_mul, ← EReal.coe_add, ← EReal.coe_sub, ← EReal.coe_mul, ← EReal.coe_add, div_size, ← EReal.coe_sub, ← EReal.coe_sub]
  unfold low
  congr 1
  ring

variable (m : (ℓ : Loc nD τ sig) → Buf (Elt Ideal) ℓ) (c : Dev nD) (p : Cloud.Idx → EReal) (hp : m (c, Proc.devRef .tc main_arg0) = p)
variable (f : S2x4096x64.Idx → EReal) (hf : m (c, Proc.devRef .tc main_arg1) = f)

include hp in
/-- A sorted point lies below a band's strip exactly when its row comes before the number of such points. -/
theorem below_at (b : Fin 2) (t : Fin 32) (r : Fin 4096) :
    ys p b (order p b r) < ((low t : ℝ) : EReal) ↔ r.val < below (sortedY m c) b t := by
  classical
  have e : below (sortedY m c) b t = (Finset.univ.filter fun k => ys p b (order p b k) < ((low t : ℝ) : EReal)).card := by
    unfold below
    refine congrArg Finset.card (Finset.filter_congr fun k _ => ?_)
    have hy : sortedY m c (ix2 b k) = ys p b (order p b k) := (sorted m c p hp).2.2.2.1 b k
    rw [hy, lowEdge_eq]
    show BitVec.ofBool (decide (ys p b (order p b k) < ((low t : ℝ) : EReal))) = 1#1 ↔ _
    by_cases h : ys p b (order p b k) < ((low t : ℝ) : EReal) <;> simp [h]
  rw [e]
  exact below_iff (fun k => ys p b (order p b k)) (order_monotone p b) _ r

include hp in
/-- Every point in a band's strip lies in the band's window of 344 rows. -/
theorem in_window (hs : ∀ b t, (strip p b t).card ≤ 337) (b : Fin 2) (t : Fin 32) (r : Fin 4096)
    (hr : order p b r ∈ strip p b t) :
    (Arr.start m c b t).val * 8 ≤ r.val ∧ r.val < (Arr.start m c b t).val * 8 + 344 := by
  classical
  have hr' := (Finset.mem_filter.mp hr).2
  have h1 : below (sortedY m c) b t ≤ r.val := by
    by_contra h
    exact absurd ((below_at m c p hp b t r).mpr (not_le.mp h)) (not_lt.mpr hr'.1)
  have hlt : below (sortedY m c) b t < 4096 := h1.trans_lt r.isLt
  have hsub : (Finset.Icc (⟨below (sortedY m c) b t, hlt⟩ : Fin 4096) r).image (order p b) ⊆ strip p b t := by
    intro i hi
    obtain ⟨j, hj, rfl⟩ := Finset.mem_image.mp hi
    obtain ⟨j1, j2⟩ := Finset.mem_Icc.mp hj
    refine Finset.mem_filter.mpr ⟨Finset.mem_univ _, ?_, ?_⟩
    · refine not_lt.mp fun h => ?_
      have := (below_at m c p hp b t j).mp h
      exact absurd (Fin.le_def.mp j1) (not_le.mpr this)
    · exact (order_monotone p b j2).trans hr'.2
  have hcard := (Finset.card_le_card hsub).trans (hs b t)
  rw [Finset.card_image_of_injOn fun i _ j _ h => order_injective p b h, Fin.card_Icc] at hcard
  have hcard' : r.val + 1 - below (sortedY m c) b t ≤ 337 := hcard
  show below (sortedY m c) b t / 8 * 8 ≤ r.val ∧ r.val < below (sortedY m c) b t / 8 * 8 + 344
  omega

theorem padded_lt {α : Type} (x : Fin 4096 → α) (fill : α) {r : Fin 4952} (h : r.val < 4096) : padded x fill r = x ⟨r.val, h⟩ := dif_pos h
theorem padded_ge {α : Type} (x : Fin 4096 → α) (fill : α) {r : Fin 4952} (h : ¬ r.val < 4096) : padded x fill r = fill := dif_neg h

/-- The point in row `r`, or any point where the row is padding. -/
def pointAt (b : Fin 2) (r : Fin 4952) : Fin 4096 := padded (order p b) 0 r

include hp hf in
theorem value_eq (hs : ∀ b t, (strip p b t).card ≤ 337) (b : Fin 2) (ch : Fin 64) (P : Fin 16384) :
    Arr.value m c b ch P
      = blend (fun i => dist2 (xs p b i) (ys p b i) (center (P.val % 128)) (center (P.val / 128)) ≤ radius2) (Before (zs p b))
          (fun i => dist2 (xs p b i) (ys p b i) (center (P.val % 128)) (center (P.val / 128))) (fun i => f (ix3 b i ch)) := by
  unfold Arr.value Arr.pixelSum
  rw [rowSum_eq_blend _ _ _ _ fun i hi => ⟨dist2_nonneg _ _ _ _, hi⟩]
  have hw : P.val / 128 < 128 := by have := P.isLt; omega
  generalize hn : Arr.start m c b (Arr.band P) = n
  have hin : ∀ k : Fin 344, dist2 (Arr.rows m c (ix3 b (Arr.rowAt n k) 0)) (Arr.rows m c (ix3 b (Arr.rowAt n k) 1)) (center (P.val % 128))
      (center (P.val / 128)) ≤ radius2 → (Arr.rowAt n k).val < 4096 := by
    intro k hk
    by_contra h
    rw [(rows_at m c p hp b _).2.1, padded_ge _ _ h] at hk
    exact not_near hw hk
  have hx : ∀ k : Fin 344, (Arr.rowAt n k).val < 4096 → Arr.rows m c (ix3 b (Arr.rowAt n k) 0) = xs p b (pointAt p b (Arr.rowAt n k)) := by
    intro k h
    rw [(rows_at m c p hp b _).1, pointAt, padded_lt _ _ h, padded_lt _ _ h]
  have hy : ∀ k : Fin 344, (Arr.rowAt n k).val < 4096 → Arr.rows m c (ix3 b (Arr.rowAt n k) 1) = ys p b (pointAt p b (Arr.rowAt n k)) := by
    intro k h
    rw [(rows_at m c p hp b _).2.1, pointAt, padded_lt _ _ h, padded_lt _ _ h]
  have hd : ∀ k : Fin 344, (Arr.rowAt n k).val < 4096 →
      dist2 (Arr.rows m c (ix3 b (Arr.rowAt n k) 0)) (Arr.rows m c (ix3 b (Arr.rowAt n k) 1)) (center (P.val % 128)) (center (P.val / 128))
        = dist2 (xs p b (pointAt p b (Arr.rowAt n k))) (ys p b (pointAt p b (Arr.rowAt n k))) (center (P.val % 128)) (center (P.val / 128)) := by
    intro k h
    rw [hx k h, hy k h]
  refine blend_reindex _ _ _ _ _ _ _ _ (fun k => pointAt p b (Arr.rowAt n k)) ?_ ?_ ?_ ?_ ?_ ?_
  · intro i j hi hj hij
    have hi' := hin i hi
    have hj' := hin j hj
    simp only [pointAt] at hij
    rw [padded_lt _ _ hi', padded_lt _ _ hj'] at hij
    have := congrArg Fin.val (order_injective p b hij)
    simp only [Arr.rowAt] at this
    exact Fin.ext (by omega)
  · intro i hi
    rw [← hd i (hin i hi)]
    exact hi
  · intro i hi
    obtain ⟨r, rfl⟩ := order_surjective p b i
    have hr : order p b r ∈ strip p b (Arr.band P) := by
      unfold strip
      refine Finset.mem_filter.mpr ⟨Finset.mem_univ _, near_strip hw (Arr.band P) ?_ hi⟩
      show P.val / 128 / 4 = P.val / 512
      omega
    have hwin := in_window m c p hp hs b _ r hr
    rw [hn] at hwin
    have hk : (Arr.rowAt n ⟨r.val - n.val * 8, by omega⟩).val = r.val := by
      simp only [Arr.rowAt]
      omega
    have hk' : (Arr.rowAt n ⟨r.val - n.val * 8, by omega⟩).val < 4096 := by have := r.isLt; omega
    have e : pointAt p b (Arr.rowAt n ⟨r.val - n.val * 8, by omega⟩) = order p b r := by
      unfold pointAt
      rw [padded_lt _ _ hk']
      exact congrArg (order p b) (Fin.ext hk)
    refine ⟨⟨r.val - n.val * 8, by omega⟩, ?_, e⟩
    rw [hd _ hk', e]
    exact hi
  · intro i j hi hj
    have hi' := hin i hi
    have hj' := hin j hj
    rw [(rows_at m c p hp b _).2.2.1, (rows_at m c p hp b _).2.2.2, (lanes_at m c p hp b _).1, (lanes_at m c p hp b _).2]
    unfold Before pointAt
    rw [padded_lt _ _ hi', padded_lt _ _ hi', padded_lt _ _ hi', padded_lt _ _ hj', padded_lt _ _ hj', padded_lt _ _ hj', index_lt]
  · intro i hi
    exact hd i (hin i hi)
  · intro i hi
    have hi' := hin i hi
    rw [feats_at m c p hp f hf b _ ch, pointAt, padded_lt _ _ hi', padded_lt _ _ hi']

end Cert.KernelIdeal.Match
-- ==== Proof.Equal.lean ====
module

public import proofs.«01_k».proof.Proof.Match
public import Idealize.ShloMosaic.Lib.Claim

/-!
The kernel and the reference leave the same array.
-/

@[expose] public section
noncomputable section
namespace Cert.Proof.Equal
open Cert.Blend Idealize.ShloMosaic Idealize.ShloMosaic.TcCoe Idealize.SL.Sem Idealize.ShloMosaic.StableHlo

/-- The image of a cloud with features: at every pixel the blend of its eight nearest points in depth. -/
def image (p : Cloud.Idx → EReal) (f : (⟨3, ![2, 4096, 64]⟩ : Shape).Idx → EReal) (j : (⟨4, ![2, 64, 128, 128]⟩ : Shape).Idx) : EReal :=
  blend (fun i => dist2 (xs p (j 0) i) (ys p (j 0) i) (center (j 3).val) (center (j 2).val) ≤ radius2) (Before (zs p (j 0)))
    (fun i => dist2 (xs p (j 0) i) (ys p (j 0) i) (center (j 3).val) (center (j 2).val)) (fun i => f (ix3 (j 0) i (j 1)))

section Kernel
open Cert.KernelIdeal Cert.KernelIdeal.Gen
variable [Cert.Pre_crowd_fits.Facts] (m : (ℓ : Loc nD τ sig) → Buf (Elt Ideal) ℓ)

/-- The pixel in row `h` and column `w`. -/
def pixel (h w : Fin 128) : Fin 16384 := ⟨h.val * 128 + w.val, by have := h.isLt; have := w.isLt; omega⟩

/-- The last operation reads the grid's array with the pixels in rows and columns. -/
theorem result_at (W : Valuation τ sig (Elt Ideal)) (b : Fin 2) (ch : Fin 64) (h w : Fin 128) :
    after hostOps1 W (Proc.devRef .tc main_v113) (ix4 b ch h w) = W (Proc.devRef .tc main_v112) (ix3 b ch (pixel h w)) := by
  after_reads_simp
  refine shapeCast_apply (s := S2x64x16384) (t := S2x64x128x128) _ shapeCasts_S2x64x16384_S2x64x128x128 (ix4 b ch h w) (ix3 b ch (pixel h w)) ?_
  rw [Shape.rowMajor_val_three, Shape.rowMajor_val_four]
  show (b.val * 64 + ch.val) * 16384 + (h.val * 128 + w.val) = ((b.val * 64 + ch.val) * 128 + h.val) * 128 + w.val
  omega

theorem arrays_injective : Function.Injective (Pipeline.arrRef spec0) := by
  have h : ∀ w w', Pipeline.arrRef spec0 w = Pipeline.arrRef spec0 w' → w = w' := by decide
  exact fun w w' => h w w'

theorem kernel_result (hpre : Cert.Pre_KernelIdeal_crowd_fits m) (c : Dev nD) :
    Pipeline.afterTail₀ cfgs (dats m (Starts.hyps m)) 0 (V0 m) [hostOps1] c main_v113
      = image (m ((c.tc : Thread nD τ).loc main_arg0)) (m ((c.tc : Thread nD τ).loc main_arg1)) := by
  funext j
  rw [eq_ix4 j]
  unfold Pipeline.afterTail₀
  refine (result_at _ (j 0) (j 1) (j 2) (j 3)).trans ?_
  have ha : Pipeline.withArrays spec0 c (V0 m c) (fun w => (dats m (Starts.hyps m) 0 c).arrAt w cfg0.N) (Proc.devRef .tc main_v112)
      = fun j : S2x64x16384.Idx => Arr.value m c (j 0) (j 1) (j 2) :=
    (Pipeline.withArrays_arr spec0 arrays_injective c _ _ 4).trans (Arr.arr m c)
  refine (congrFun ha (ix3 (j 0) (j 1) (pixel (j 2) (j 3)))).trans ?_
  refine (Match.value_eq m c _ rfl _ rfl (Crowd.strip_at _ _ (hpre c).1) (j 0) (j 1) (pixel (j 2) (j 3))).trans ?_
  have h3 : (j 3).val < 128 := (j 3).isLt
  have e1 : (pixel (j 2) (j 3)).val % 128 = (j 3).val := by
    show ((j 2).val * 128 + (j 3).val) % 128 = _
    omega
  have e2 : (pixel (j 2) (j 3)).val / 128 = (j 2).val := by
    show ((j 2).val * 128 + (j 3).val) / 128 = _
    omega
  rw [e1, e2]
  rfl

theorem kernel_run (ρ : Dev nD → PrngReg) (hpre : Cert.Pre_KernelIdeal_crowd_fits m) :
    θ_run defs (onTc (τ := τ) (main (F := Ideal))) ⟨m, fun _ => 0, ρ⟩ (fun r => ∀ c : Dev nD,
      r.2.mem ((c.tc : Thread nD τ).loc main_v113) = image (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v113 (Pipeline.mem_restRefs_of main_v113 (by decide) (by decide))).trans (kernel_result m hpre c),
      ((h c).2 main_arg0 (Pipeline.mem_restRefs_of main_arg0 (by decide) (by decide))).trans (W_main_arg0 m _ c),
      ((h c).2 main_arg1 (Pipeline.mem_restRefs_of main_arg1 (by decide) (by decide))).trans (W_main_arg1 m _ c)⟩)
    (run_main m ρ (Starts.hyps m))

end Kernel

section Reference
open Cert.ReferenceIdeal Cert.ReferenceIdeal.Gen Cert.ReferenceIdeal.Value
variable (m : (ℓ : Loc nD τ sig) → Buf (Elt Ideal) ℓ)

theorem reference_run (ρ : Dev nD → PrngReg)
    (hz : ∀ (c : Dev nD) b i, 0 < zs (m ((c.tc : Thread nD τ).loc main_arg0)) b i ∧ zs (m ((c.tc : Thread nD τ).loc main_arg0)) b i < ⊤) :
    θ_run defs (onTc (τ := τ) (main (F := Ideal))) ⟨m, fun _ => 0, ρ⟩ (fun r => ∀ c : Dev nD,
      r.2.mem ((c.tc : Thread nD τ).loc main_v122) = image (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1.trans (val3_main_v122 (launchContents m c)).symm).trans (by
      funext j
      rw [eq_ix4 j]
      exact Ref.result_at (launchContents m c) _ rfl _ rfl (hz c) (j 0) (j 1) (j 2) (j 3)), (h c).2⟩)
    (run m ρ)

end Reference

theorem algebraic [Cert.Pre_crowd_fits.Facts] : Cert.algebraic_KernelIdeal_ReferenceIdeal_pre_crowd_fits := by
  intro m g m' g' hpre hagree
  refine ⟨fun c => image (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), kernel_run m g hpre, ?_⟩
  refine (θ_run Cert.ReferenceIdeal.defs _ _).mono (fun r h c => ⟨(h c).1.trans ?_, (h c).2⟩) (reference_run m' g' fun c => ?_)
  · rw [(hagree c).1]
    exact Crowd.depth_at _ _ (hpre c).2
  · rw [(hagree c).1, (hagree c).2]

end Cert.Proof.Equal
-- ==== Proof.lean ====
module

public import proofs.«01_k».proof.Defs
public import proofs.«01_k».proof.Proof.Frames
public import proofs.«01_k».proof.Proof.Equal

@[expose] public section

noncomputable section

namespace Cert.Proof

theorem claim : Cert.Claim :=
  ⟨Cert.Kernel.Gen.facts, Cert.KernelIdeal.Gen.facts, Cert.ReferenceIdeal.Gen.facts, Cert.Pre_crowd_fits.Gen.facts,
    Frames.kernel, Frames.kernelIdeal, Frames.kernelIdealPre, Frames.referenceIdeal, Frames.referenceIdealPre,
    Frames.preserves, Equal.algebraic⟩

end Cert.Proof
